-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x512 : Shape := ⟨2, ![100000, 512]⟩
abbrev S1x512 : Shape := ⟨2, ![1, 512]⟩
abbrev S10000x128 : Shape := ⟨2, ![10000, 128]⟩
abbrev S10000x512 : Shape := ⟨2, ![10000, 512]⟩
abbrev S512 : Shape := ⟨1, ![512]⟩
abbrev S100352 : Shape := ⟨1, ![100352]⟩
abbrev S3136 : Shape := ⟨1, ![3136]⟩
abbrev S_ : Shape := ⟨0, ![]⟩
abbrev S16 : Shape := ⟨1, ![16]⟩
abbrev S100000 : Shape := ⟨1, ![100000]⟩
abbrev S1x100000 : Shape := ⟨2, ![1, 100000]⟩

abbrev nBuf : Table → Nat
  | .hbm => 7
  | .local .tc .vmem => 10
  | .local .scVector .vmem => 2
  | _ => 0

abbrev bufTy : (tb : Table) → Fin (nBuf tb) → BufTy
  | .hbm, ⟨0, _⟩ => ⟨S100000x512, .f32⟩
  | .hbm, ⟨1, _⟩ => ⟨S1x512, .f32⟩
  | .hbm, ⟨2, _⟩ => ⟨S1x512, .i32⟩
  | .hbm, ⟨3, _⟩ => ⟨S512, .i32⟩
  | .hbm, ⟨4, _⟩ => ⟨S100352, .f32⟩
  | .hbm, ⟨5, _⟩ => ⟨S100000, .f32⟩
  | .hbm, ⟨6, _⟩ => ⟨S1x100000, .f32⟩
  | .local .tc .vmem, ⟨0, _⟩ => ⟨S10000x128, .f32⟩
  | .local .tc .vmem, ⟨1, _⟩ => ⟨S10000x128, .f32⟩
  | .local .tc .vmem, ⟨2, _⟩ => ⟨S10000x128, .f32⟩
  | .local .tc .vmem, ⟨3, _⟩ => ⟨S10000x128, .f32⟩
  | .local .tc .vmem, ⟨4, _⟩ => ⟨S10000x128, .f32⟩
  | .local .tc .vmem, ⟨5, _⟩ => ⟨S10000x128, .f32⟩
  | .local .tc .vmem, ⟨6, _⟩ => ⟨S10000x128, .f32⟩
  | .local .tc .vmem, ⟨7, _⟩ => ⟨S10000x128, .f32⟩
  | .local .tc .vmem, ⟨8, _⟩ => ⟨S1x512, .f32⟩
  | .local .tc .vmem, ⟨9, _⟩ => ⟨S1x512, .i32⟩
  | .local .scVector .vmem, ⟨0, _⟩ => ⟨S512, .i32⟩
  | .local .scVector .vmem, ⟨1, _⟩ => ⟨S3136, .f32⟩
  | _, _ => ⟨S100000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_8 : BitVec 32 := 0#32
  let v19 : BitVec 1 := Scalar.cmpi .ne v18 c0_i32_8
  v19

def k0_cond2 (i : grid0.Coords) : BitVec 1 :=
  let arg0 : BitVec 32 := BitVec.ofNat 32 (i 0).val
  let c0_i32_9 : BitVec 32 := 0#32
  let v20 : BitVec 1 := Scalar.cmpi .sgt arg0 c0_i32_9
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_chk1 (v212 : IVec S16 32) : Prop :=
  (∀ a x, ((![v212] : Fin 1 → IVec S16 32) a x).toNat < S3136.size a)
theorem k1_idx1_inb : ∀ (v212 : IVec S16 32) (k1_hw1 : k1_chk1 v212), ∀ a x, ((![v212] : Fin 1 → IVec S16 32) a x).toNat < S3136.size a := fun v212 k1_hw1 => k1_hw1

def k1_chk2 (v224 : IVec S16 32) : Prop :=
  (∀ a x, ((![v224] : Fin 1 → IVec S16 32) a x).toNat < S3136.size a)
theorem k1_idx2_inb : ∀ (v224 : IVec S16 32) (k1_hw2 : k1_chk2 v224), ∀ a x, ((![v224] : Fin 1 → IVec S16 32) a x).toNat < S3136.size a := fun v224 k1_hw2 => k1_hw2

def k1_chk3 (v236 : IVec S16 32) : Prop :=
  (∀ a x, ((![v236] : Fin 1 → IVec S16 32) a x).toNat < S3136.size a)
theorem k1_idx3_inb : ∀ (v236 : IVec S16 32) (k1_hw3 : k1_chk3 v236), ∀ a x, ((![v236] : Fin 1 → IVec S16 32) a x).toNat < S3136.size a := fun v236 k1_hw3 => k1_hw3

def k1_chk4 (v248 : IVec S16 32) : Prop :=
  (∀ a x, ((![v248] : Fin 1 → IVec S16 32) a x).toNat < S3136.size a)
theorem k1_idx4_inb : ∀ (v248 : IVec S16 32) (k1_hw4 : k1_chk4 v248), ∀ a x, ((![v248] : Fin 1 → IVec S16 32) a x).toNat < S3136.size a := fun v248 k1_hw4 => k1_hw4

def k1_chk5 (v260 : IVec S16 32) : Prop :=
  (∀ a x, ((![v260] : Fin 1 → IVec S16 32) a x).toNat < S3136.size a)
theorem k1_idx5_inb : ∀ (v260 : IVec S16 32) (k1_hw5 : k1_chk5 v260), ∀ a x, ((![v260] : Fin 1 → IVec S16 32) a x).toNat < S3136.size a := fun v260 k1_hw5 => k1_hw5

def k1_chk6 (v272 : IVec S16 32) : Prop :=
  (∀ a x, ((![v272] : Fin 1 → IVec S16 32) a x).toNat < S3136.size a)
theorem k1_idx6_inb : ∀ (v272 : IVec S16 32) (k1_hw6 : k1_chk6 v272), ∀ a x, ((![v272] : Fin 1 → IVec S16 32) a x).toNat < S3136.size a := fun v272 k1_hw6 => k1_hw6

def k1_chk7 (v284 : IVec S16 32) : Prop :=
  (∀ a x, ((![v284] : Fin 1 → IVec S16 32) a x).toNat < S3136.size a)
theorem k1_idx7_inb : ∀ (v284 : IVec S16 32) (k1_hw7 : k1_chk7 v284), ∀ a x, ((![v284] : Fin 1 → IVec S16 32) a x).toNat < S3136.size a := fun v284 k1_hw7 => k1_hw7

def k1_chk8 (v296 : IVec S16 32) : Prop :=
  (∀ a x, ((![v296] : Fin 1 → IVec S16 32) a x).toNat < S3136.size a)
theorem k1_idx8_inb : ∀ (v296 : IVec S16 32) (k1_hw8 : k1_chk8 v296), ∀ a x, ((![v296] : Fin 1 → IVec S16 32) a x).toNat < S3136.size a := fun v296 k1_hw8 => k1_hw8

def k1_chk9 (v308 : IVec S16 32) : Prop :=
  (∀ a x, ((![v308] : Fin 1 → IVec S16 32) a x).toNat < S3136.size a)
theorem k1_idx9_inb : ∀ (v308 : IVec S16 32) (k1_hw9 : k1_chk9 v308), ∀ a x, ((![v308] : Fin 1 → IVec S16 32) a x).toNat < S3136.size a := fun v308 k1_hw9 => k1_hw9

def k1_chk10 (v320 : IVec S16 32) : Prop :=
  (∀ a x, ((![v320] : Fin 1 → IVec S16 32) a x).toNat < S3136.size a)
theorem k1_idx10_inb : ∀ (v320 : IVec S16 32) (k1_hw10 : k1_chk10 v320), ∀ a x, ((![v320] : Fin 1 → IVec S16 32) a x).toNat < S3136.size a := fun v320 k1_hw10 => k1_hw10

def k1_chk11 (v332 : IVec S16 32) : Prop :=
  (∀ a x, ((![v332] : Fin 1 → IVec S16 32) a x).toNat < S3136.size a)
theorem k1_idx11_inb : ∀ (v332 : IVec S16 32) (k1_hw11 : k1_chk11 v332), ∀ a x, ((![v332] : Fin 1 → IVec S16 32) a x).toNat < S3136.size a := fun v332 k1_hw11 => k1_hw11

def k1_chk12 (v344 : IVec S16 32) : Prop :=
  (∀ a x, ((![v344] : Fin 1 → IVec S16 32) a x).toNat < S3136.size a)
theorem k1_idx12_inb : ∀ (v344 : IVec S16 32) (k1_hw12 : k1_chk12 v344), ∀ a x, ((![v344] : Fin 1 → IVec S16 32) a x).toNat < S3136.size a := fun v344 k1_hw12 => k1_hw12

def k1_chk13 (v356 : IVec S16 32) : Prop :=
  (∀ a x, ((![v356] : Fin 1 → IVec S16 32) a x).toNat < S3136.size a)
theorem k1_idx13_inb : ∀ (v356 : IVec S16 32) (k1_hw13 : k1_chk13 v356), ∀ a x, ((![v356] : Fin 1 → IVec S16 32) a x).toNat < S3136.size a := fun v356 k1_hw13 => k1_hw13

def k1_chk14 (v368 : IVec S16 32) : Prop :=
  (∀ a x, ((![v368] : Fin 1 → IVec S16 32) a x).toNat < S3136.size a)
theorem k1_idx14_inb : ∀ (v368 : IVec S16 32) (k1_hw14 : k1_chk14 v368), ∀ a x, ((![v368] : Fin 1 → IVec S16 32) a x).toNat < S3136.size a := fun v368 k1_hw14 => k1_hw14

def k1_chk15 (v380 : IVec S16 32) : Prop :=
  (∀ a x, ((![v380] : Fin 1 → IVec S16 32) a x).toNat < S3136.size a)
theorem k1_idx15_inb : ∀ (v380 : IVec S16 32) (k1_hw15 : k1_chk15 v380), ∀ a x, ((![v380] : Fin 1 → IVec S16 32) a x).toNat < S3136.size a := fun v380 k1_hw15 => k1_hw15

def k1_chk16 (v392 : IVec S16 32) : Prop :=
  (∀ a x, ((![v392] : Fin 1 → IVec S16 32) a x).toNat < S3136.size a)
theorem k1_idx16_inb : ∀ (v392 : IVec S16 32) (k1_hw16 : k1_chk16 v392), ∀ a x, ((![v392] : Fin 1 → IVec S16 32) a x).toNat < S3136.size a := fun v392 k1_hw16 => k1_hw16

def k1_chk17 (v404 : IVec S16 32) : Prop :=
  (∀ a x, ((![v404] : Fin 1 → IVec S16 32) a x).toNat < S3136.size a)
theorem k1_idx17_inb : ∀ (v404 : IVec S16 32) (k1_hw17 : k1_chk17 v404), ∀ a x, ((![v404] : Fin 1 → IVec S16 32) a x).toNat < S3136.size a := fun v404 k1_hw17 => k1_hw17

def k1_chk18 (v416 : IVec S16 32) : Prop :=
  (∀ a x, ((![v416] : Fin 1 → IVec S16 32) a x).toNat < S3136.size a)
theorem k1_idx18_inb : ∀ (v416 : IVec S16 32) (k1_hw18 : k1_chk18 v416), ∀ a x, ((![v416] : Fin 1 → IVec S16 32) a x).toNat < S3136.size a := fun v416 k1_hw18 => k1_hw18

def k1_chk19 (v428 : IVec S16 32) : Prop :=
  (∀ a x, ((![v428] : Fin 1 → IVec S16 32) a x).toNat < S3136.size a)
theorem k1_idx19_inb : ∀ (v428 : IVec S16 32) (k1_hw19 : k1_chk19 v428), ∀ a x, ((![v428] : Fin 1 → IVec S16 32) a x).toNat < S3136.size a := fun v428 k1_hw19 => k1_hw19

def k1_chk20 (v440 : IVec S16 32) : Prop :=
  (∀ a x, ((![v440] : Fin 1 → IVec S16 32) a x).toNat < S3136.size a)
theorem k1_idx20_inb : ∀ (v440 : IVec S16 32) (k1_hw20 : k1_chk20 v440), ∀ a x, ((![v440] : Fin 1 → IVec S16 32) a x).toNat < S3136.size a := fun v440 k1_hw20 => k1_hw20

def k1_chk21 (v452 : IVec S16 32) : Prop :=
  (∀ a x, ((![v452] : Fin 1 → IVec S16 32) a x).toNat < S3136.size a)
theorem k1_idx21_inb : ∀ (v452 : IVec S16 32) (k1_hw21 : k1_chk21 v452), ∀ a x, ((![v452] : Fin 1 → IVec S16 32) a x).toNat < S3136.size a := fun v452 k1_hw21 => k1_hw21

def k1_chk22 (v464 : IVec S16 32) : Prop :=
  (∀ a x, ((![v464] : Fin 1 → IVec S16 32) a x).toNat < S3136.size a)
theorem k1_idx22_inb : ∀ (v464 : IVec S16 32) (k1_hw22 : k1_chk22 v464), ∀ a x, ((![v464] : Fin 1 → IVec S16 32) a x).toNat < S3136.size a := fun v464 k1_hw22 => k1_hw22

def k1_chk23 (v476 : IVec S16 32) : Prop :=
  (∀ a x, ((![v476] : Fin 1 → IVec S16 32) a x).toNat < S3136.size a)
theorem k1_idx23_inb : ∀ (v476 : IVec S16 32) (k1_hw23 : k1_chk23 v476), ∀ a x, ((![v476] : Fin 1 → IVec S16 32) a x).toNat < S3136.size a := fun v476 k1_hw23 => k1_hw23

def k1_chk24 (v488 : IVec S16 32) : Prop :=
  (∀ a x, ((![v488] : Fin 1 → IVec S16 32) a x).toNat < S3136.size a)
theorem k1_idx24_inb : ∀ (v488 : IVec S16 32) (k1_hw24 : k1_chk24 v488), ∀ a x, ((![v488] : Fin 1 → IVec S16 32) a x).toNat < S3136.size a := fun v488 k1_hw24 => k1_hw24

def k1_chk25 (v500 : IVec S16 32) : Prop :=
  (∀ a x, ((![v500] : Fin 1 → IVec S16 32) a x).toNat < S3136.size a)
theorem k1_idx25_inb : ∀ (v500 : IVec S16 32) (k1_hw25 : k1_chk25 v500), ∀ a x, ((![v500] : Fin 1 → IVec S16 32) a x).toNat < S3136.size a := fun v500 k1_hw25 => k1_hw25

def k1_chk26 (v512 : IVec S16 32) : Prop :=
  (∀ a x, ((![v512] : Fin 1 → IVec S16 32) a x).toNat < S3136.size a)
theorem k1_idx26_inb : ∀ (v512 : IVec S16 32) (k1_hw26 : k1_chk26 v512), ∀ a x, ((![v512] : Fin 1 → IVec S16 32) a x).toNat < S3136.size a := fun v512 k1_hw26 => k1_hw26

def k1_chk27 (v524 : IVec S16 32) : Prop :=
  (∀ a x, ((![v524] : Fin 1 → IVec S16 32) a x).toNat < S3136.size a)
theorem k1_idx27_inb : ∀ (v524 : IVec S16 32) (k1_hw27 : k1_chk27 v524), ∀ a x, ((![v524] : Fin 1 → IVec S16 32) a x).toNat < S3136.size a := fun v524 k1_hw27 => k1_hw27

def k1_chk28 (v536 : IVec S16 32) : Prop :=
  (∀ a x, ((![v536] : Fin 1 → IVec S16 32) a x).toNat < S3136.size a)
theorem k1_idx28_inb : ∀ (v536 : IVec S16 32) (k1_hw28 : k1_chk28 v536), ∀ a x, ((![v536] : Fin 1 → IVec S16 32) a x).toNat < S3136.size a := fun v536 k1_hw28 => k1_hw28

def k1_chk29 (v548 : IVec S16 32) : Prop :=
  (∀ a x, ((![v548] : Fin 1 → IVec S16 32) a x).toNat < S3136.size a)
theorem k1_idx29_inb : ∀ (v548 : IVec S16 32) (k1_hw29 : k1_chk29 v548), ∀ a x, ((![v548] : Fin 1 → IVec S16 32) a x).toNat < S3136.size a := fun v548 k1_hw29 => k1_hw29

def k1_chk30 (v560 : IVec S16 32) : Prop :=
  (∀ a x, ((![v560] : Fin 1 → IVec S16 32) a x).toNat < S3136.size a)
theorem k1_idx30_inb : ∀ (v560 : IVec S16 32) (k1_hw30 : k1_chk30 v560), ∀ a x, ((![v560] : Fin 1 → IVec S16 32) a x).toNat < S3136.size a := fun v560 k1_hw30 => k1_hw30

def k1_chk31 (v572 : IVec S16 32) : Prop :=
  (∀ a x, ((![v572] : Fin 1 → IVec S16 32) a x).toNat < S3136.size a)
theorem k1_idx31_inb : ∀ (v572 : IVec S16 32) (k1_hw31 : k1_chk31 v572), ∀ a x, ((![v572] : Fin 1 → IVec S16 32) a x).toNat < S3136.size a := fun v572 k1_hw31 => k1_hw31

def k1_chk32 (v584 : IVec S16 32) : Prop :=
  (∀ a x, ((![v584] : Fin 1 → IVec S16 32) a x).toNat < S3136.size a)
theorem k1_idx32_inb : ∀ (v584 : IVec S16 32) (k1_hw32 : k1_chk32 v584), ∀ a x, ((![v584] : Fin 1 → IVec S16 32) a x).toNat < S3136.size a := fun v584 k1_hw32 => k1_hw32
def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x512 : Shape := ⟨2, ![100000, 512]⟩
abbrev S_ : Shape := ⟨0, ![]⟩
abbrev S512 : Shape := ⟨1, ![512]⟩
abbrev S100000 : Shape := ⟨1, ![100000]⟩
abbrev S512x1 : Shape := ⟨2, ![512, 1]⟩
abbrev S1x100000 : Shape := ⟨2, ![1, 100000]⟩
abbrev S1x512 : Shape := ⟨2, ![1, 512]⟩

abbrev nBuf : Space → Nat
  | .hbm => 32
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S_, .f32⟩
  | .hbm, ⟨2, _⟩ => ⟨S512, .f32⟩
  | .hbm, ⟨3, _⟩ => ⟨S100000x512, .i32⟩
  | .hbm, ⟨4, _⟩ => ⟨S_, .f32⟩
  | .hbm, ⟨5, _⟩ => ⟨S_, .i32⟩
  | .hbm, ⟨6, _⟩ => ⟨S512, .f32⟩
  | .hbm, ⟨7, _⟩ => ⟨S512, .i32⟩
  | .hbm, ⟨8, _⟩ => ⟨S_, .i32⟩
  | .hbm, ⟨9, _⟩ => ⟨S100000, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S_, .i32⟩
  | .hbm, ⟨23, _⟩ => ⟨S512, .i32⟩
  | .hbm, ⟨24, _⟩ => ⟨S100000, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S1x100000, .f32⟩
  | .hbm, ⟨31, _⟩ => ⟨S1x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Proof.Setup.lean ====
/-
  The program of the certificate as the launch theorem of the SparseCores sees it, the resource algebra that
  the proof counts in, and the SparseCore kernel's body rewritten as two counted runs.

  The SparseCore kernel's text is straight: one hundred and ninety-six zeroing stores and thirty-two scattering
  stores, one after another. `hist_body_eq` says that this text is `each 196 (zeroing store k)`, a wait, and
  `each 32 (scattering store k)`, so that each kind of store is proved once, for every `k`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The kernel's body as two counted runs -/

/-- `f 0`, then `f 1`, …, then `f (n - 1)`. -/
def each.{v} {E : Type → Type v} : (n : Nat) → (Fin n → Prog E PUnit.{1}) → Prog E PUnit.{1}
  | 0, _ => pure ⟨⟩
  | n + 1, f => f 0 >>= fun _ => each n fun i => f i.succ

theorem each_zero.{v} {E : Type → Type v} (f : Fin 0 → Prog E PUnit.{1}) : each 0 f = pure ⟨⟩ := rfl
theorem each_succ.{v} {E : Type → Type v} (n : ℕ) (f : Fin (n + 1) → Prog E PUnit.{1}) :
    each (n + 1) f = f 0 >>= fun _ => each n fun i => f i.succ := rfl
attribute [irreducible] each

/-- The first bin of a tile's share of the histogram, as the kernel computes it. -/
def baseW (i : grid1.Coords) : BitVec 32 :=
  Scalar.muli (Scalar.addi (Scalar.muli (BitVec.ofNat 32 (i 1).val) 2#32) (BitVec.ofNat 32 (i 0).val)) 3136#32

/-- Sixteen words, counted from the word `b`. -/
def rel (b : BitVec 32) (v : IVec S16 32) : IVec S16 32 := subi v (broadcast S16 b)
/-- Which of them lie among the tile's 3136 bins. -/
def inBins (b : BitVec 32) (v : IVec S16 32) : IVec S16 1 :=
  andi (cmpi .sge (rel b v) (broadcast S16 0#32)) (cmpi .slt (rel b v) (broadcast S16 3136#32))
/-- The same, pressed into the tile's bins. -/
def clamp (b : BitVec 32) (v : IVec S16 32) : IVec S16 32 :=
  minsi (broadcast S16 3135#32) (maxsi (broadcast S16 0#32) (rel b v))

section Steps

variable [FloatOps F] {p : Proc τ}

/-- The vector of zeros that the kernel stores, and the vector of `1/512`s that it adds. -/
def zeros16 : FVec F S16 .f32 := broadcast S16 (Scalar.ofBits .f32 0x00000000#32)
def unit16 : FVec F S16 .f32 := broadcast S16 (Scalar.ofBits .f32 0x3B000000#32)

theorem inb_hist (k : Fin 196) : ∀ a, (![16 * k.val] : Fin 1 → Nat) a + S16.size a ≤ S3136.size a := by
  intro a; obtain rfl : a = 0 := Subsingleton.elim _ _
  have := k.isLt; show 16 * k.val + 16 ≤ 3136; omega
theorem inb_idx (k : Fin 32) : ∀ a, (![16 * k.val] : Fin 1 → Nat) a + S16.size a ≤ S512.size a := by
  intro a; obtain rfl : a = 0 := Subsingleton.elim _ _
  have := k.isLt; show 16 * k.val + 16 ≤ 512; omega

/-- Zeroing store `k`: the sixteen bins from `16 k` on (the kernel reads them first and drops what it read). -/
def zeroStep (h5 : Memref sig p.kind .vmem S3136 .f32) (k : Fin 196) : Prog (TpuEff nD τ sig (Elt F) Λ₀ p) PUnit.{1} := do
  let _ : Vec F S16 .f32 ← Prog.lift (.load h5 (Rect.unit (s := S3136) ![16 * k.val] S16.size (inb_hist k)).toLoadRect (View.loadsAt_vmem h_S16))
  Prog.lift (.store h5 (Rect.unit (s := S3136) ![16 * k.val] S16.size (inb_hist k)) (zeros16 (F := F)) Finset.univ (View.stores_vmem_bits_univ h_S16 rfl) (.inl rfl))

/-- Scattering store `k`: the words `16 k` to `16 k + 15`, each adding `1/512` to its bin if it has one here. -/
def scatStep (h4 : Memref sig p.kind .vmem S512 .i32) (h5 : Memref sig p.kind .vmem S3136 .f32) (b : BitVec 32) (k : Fin 32) :
    Prog (TpuEff nD τ sig (Elt F) Λ₀ p) PUnit.{1} := do
  let v : Vec F S16 .i32 ← Prog.lift (.load h4 (Rect.unit (s := S512) ![16 * k.val] S16.size (inb_idx k)).toLoadRect (View.loadsAt_vmem h_S16))
  have hw : k1_chk1 (clamp b v) := (← Prog.lift (TpuEff.assume (k1_chk1 (clamp b v)) (k1_chk1.dec _))).down
  SparseCore.vectorStoreIdx h5 ![clamp b v] (unit16 (F := F)) (inBins b v) true (k1_idx1_inb _ hw) (View.stores_vmem_bits_univ h_S3136 rfl)

end Steps

/-- The body of the SparseCore kernel, its straight text folded up. -/
def histBody [FloatOps F] (i : grid1.Coords) (arg2 : Memref sig .scVector .hbm S512 .i32) (harg2 : arg2.IsWhole) (arg3 : Memref sig .scVector .hbm S100352 .f32)
    (arg4 : Memref sig .scVector .vmem S512 .i32) (harg4 : arg4.IsWhole) (arg5 : Memref sig .scVector .vmem S3136 .f32) (harg5 : arg5.IsWhole)
    (s6 : DmaSems sig S_) (s7 : DmaSems sig S_) :
    Prog (TpuEff nD τ sig (Elt F) Λ₀ (.scVector ((i 0).castLE hcore1) ((i 1).castLE hsub1))) PUnit.{1} := do
  Prog.lift (.enqueueDma arg2 (.here arg4) (.dma s6.sem) harg2.wordExact harg4.wordExact ⟨Or.inl rfl, trivial⟩)
  each 196 (zeroStep (p := .scVector ((i 0).castLE hcore1) ((i 1).castLE hsub1)) arg5)
  Prog.lift (.waitDma2 s6.sem arg2 arg4 harg2.wordExact harg4.wordExact)
  each 32 (scatStep (p := .scVector ((i 0).castLE hcore1) ((i 1).castLE hsub1)) arg4 arg5 (baseW i))
  Prog.lift (.enqueueDma arg5 (.here (arg3.slice (Rect.unit (s := S100352) (k1_off1 i) S3136.size (k1_off1_inb i)) (fun _ => rfl))) (.dma s7.sem) harg5.wordExact (View.wordExact_bits rfl) ⟨Or.inl rfl, trivial⟩)
  Prog.lift (.waitDma2 s7.sem arg5 (arg3.slice (Rect.unit (s := S100352) (k1_off1 i) S3136.size (k1_off1_inb i)) (fun _ => rfl)) harg5.wordExact (View.wordExact_bits rfl))

theorem hist_body_eq [FloatOps F] (i : grid1.Coords) (arg2 : Memref sig .scVector .hbm S512 .i32) (harg2 : arg2.IsWhole) (arg3 : Memref sig .scVector .hbm S100352 .f32) (harg3 : arg3.IsWhole)
    (arg4 : Memref sig .scVector .vmem S512 .i32) (harg4 : arg4.IsWhole) (arg5 : Memref sig .scVector .vmem S3136 .f32) (harg5 : arg5.IsWhole)
    (s6 : DmaSems sig S_) (s7 : DmaSems sig S_) :
    cc1__hist_body (F := F) i arg2 harg2 arg3 harg3 arg4 harg4 arg5 harg5 s6 s7 = histBody i arg2 harg2 arg3 arg4 harg4 arg5 harg5 s6 s7 := by
  sl_kernel_rfl

end Cert.Proof.Pool
-- ==== Proof.Tile.lean ====
/-
  The SparseCore kernel on one vector subcore, at a symbolic pair of SparseCore and subcore: it fetches the 512
  indices, zeroes its 3136 bins, scatters `1/512` into them once for every index that falls among them, and
  writes them out to its window of the histogram. What it leaves there is stated as a value (`outOf`).
-/
module

public import proofs.«01_k».proof.Proof.Setup

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds, the pipeline's rounds, the transfers' counters -/

abbrev UH : Type := URounds (GSem nD τ sig) ℕ
abbrev UPipe : Type := URounds (GSem nD τ sig) Unit
abbrev UU : Type := UH × (UPipe × Counters)

local notation "𝕄" => MT nD τ sig (HIx 1) (Elt F) ℕ UU ℕ

abbrev EH : Emb UH (MT nD τ sig (HIx 1) (Elt F) ℕ UU ℕ) := embL

/-! ## Values -/

section Values

variable [FloatOps F]

/-- The position of word `n` among 512, and of bin `n` among a tile's 3136. -/
def at512 (n : ℕ) : S512.Idx := fun a => ⟨n % 512, by obtain rfl : a = 0 := Subsingleton.elim _ _; exact Nat.mod_lt _ (by decide)⟩
def at3136 (n : ℕ) : S3136.Idx := fun a => ⟨n % 3136, by obtain rfl : a = 0 := Subsingleton.elim _ _; exact Nat.mod_lt _ (by decide)⟩

/-- Words `16 k` to `16 k + 15`. -/
def group (ix : IVec S512 32) (k : ℕ) : IVec S16 32 := fun x => ix (at512 (16 * k + (x 0).val))

theorem clamp_word (w : BitVec 32) : (IntOp.minsi 3135#32 (IntOp.maxsi 0#32 w)).toNat < 3136 := by
  have h1 := BitVec.toInt_eq_toNat_cond w
  have h2 : (3135#32).toInt = 3135 := rfl
  have h3 : (0#32).toInt = 0 := rfl
  have h4 : (3135#32).toNat = 3135 := rfl
  have h5 : (0#32).toNat = 0 := rfl
  have h6 := w.isLt
  unfold IntOp.minsi IntOp.maxsi
  simp only [BitVec.slt_eq_decide, BitVec.sle_eq_decide, decide_eq_true_eq]
  split_ifs at * <;> omega

theorem clamp_lt (b : BitVec 32) (v : IVec S16 32) : k1_chk1 (clamp b v) := by
  intro a x
  obtain rfl : a = 0 := Subsingleton.elim _ _
  exact clamp_word _

/-- One scattering store over the bins `f`, of the words `v`. -/
def scat (b : BitVec 32) (v : IVec S16 32) (f : Vec F S3136 .f32) : Vec F S3136 .f32 :=
  storeIdx f ![clamp b v] (unit16 (F := F)) (inBins b v) true (k1_idx1_inb _ (clamp_lt b v))

/-- The bins after `n` scattering stores over zeros. -/
def hist (b : BitVec 32) (ix : IVec S512 32) : ℕ → Vec F S3136 .f32
  | 0 => fun _ => Scalar.ofBits .f32 0x00000000#32
  | n + 1 => scat b (group ix n) (hist b ix n)

/-- The whole histogram the 32 tiles leave: bin `j` is bin `j mod 3136` of the tile whose bins it is among. -/
def outOf (ix : IVec S512 32) : Vec F S100352 .f32 :=
  fun j => hist (BitVec.ofNat 32 (3136 * ((j 0).val / 3136))) ix 32 (at3136 (j 0).val)

end Values

/-! ## A counted run -/

section Each

universe u v
variable {M : Type u} [RA.URA M] {Mask : Sort*} (Fr : Mask → sProp M) {E : Type → Type v} (wpE : Mask → ∀ ⦃β : Type⦄, E β → sWPT M β) (Es : Mask)
variable [∀ ⦃β : Type⦄ (e : E β), sWPT.Frameable (wpE Es e)]

/-- A counted run by an invariant: every step carries it from `k` to `k + 1`. -/
theorem wp_each (n : ℕ) : ∀ (f : Fin n → Prog E PUnit.{1}) (I : ℕ → sProp M)
    (_ : ∀ k : Fin n, I k.val ⊢ wp Fr wpE Es (f k) fun _ => I (k.val + 1)), I 0 ⊢ wp Fr wpE Es (each n f) fun _ => I n := by
  induction n with
  | zero => intro f I _; rw [each_zero, wp_pure]; iintro H; imodintro; iexact H
  | succ n ih =>
    intro f I h
    rw [each_succ, wp_bind]
    refine (h 0).trans (wp_mono Fr _ _ fun _ => ?_)
    exact ih (fun i => f i.succ) (fun k => I (k + 1)) fun k => h k.succ

end Each

/-! ## The task -/

section Tile

variable (d : Dev nD) (L : grid1.Coords)

abbrev cV (L : grid1.Coords) : Fin τ.nSC := (L 0).castLE hcore1
abbrev jV (L : grid1.Coords) : Fin τ.nSub := (L 1).castLE hsub1

-- the kernel's memrefs, spelt as the body table passes them
local notation "iW" => (Memref.whole Cert.KernelIdeal.main_v1_scv : Memref Cert.KernelIdeal.sig Kind.scVector Space.hbm Cert.KernelIdeal.S512 EltTy.i32)
local notation "oW" => (Memref.whole Cert.KernelIdeal.main_v2_scv : Memref Cert.KernelIdeal.sig Kind.scVector Space.hbm Cert.KernelIdeal.S100352 EltTy.f32)
local notation "sI" => (Memref.whole Cert.KernelIdeal.cc1_scratch0 : Memref Cert.KernelIdeal.sig Kind.scVector Space.vmem Cert.KernelIdeal.S512 EltTy.i32)
local notation "sH" => (Memref.whole Cert.KernelIdeal.cc1_scratch1 : Memref Cert.KernelIdeal.sig Kind.scVector Space.vmem Cert.KernelIdeal.S3136 EltTy.f32)

/-- The indices and the histogram, as the TensorCore names them. -/
abbrev ixLoc (d : Dev nD) : Loc nD τ sig := (SparseCore.T d).loc main_v1
abbrev hLoc (d : Dev nD) : Loc nD τ sig := (SparseCore.T d).loc main_v2

/-- A tile's window of the histogram. -/
abbrev win (L : grid1.Coords) : Rect S100352 := Rect.unit (s := S100352) (k1_off1 L) S3136.size (k1_off1_inb L)
abbrev winSet (L : grid1.Coords) : Finset S100352.Idx := (win L).set

variable [FloatOps F]

abbrev thrV : Thread nD τ := V d (cV L) (jV L)
abbrev hBuf (f : Vec F S3136 .f32) : sProp 𝕄 := (sH).view.loc (thrV d L) ↦{fullShare} f

/-- The bins with the first `16 n` of them zeroed. -/
def zeroed (f : Vec F S3136 .f32) (n : ℕ) : Vec F S3136 .f32 :=
  fun j => if (j 0).val < 16 * n then Scalar.ofBits .f32 0x00000000#32 else f j

theorem zeroed_zero (f : Vec F S3136 .f32) : zeroed f 0 = f := by
  funext j; exact if_neg (by omega)
theorem zeroed_all (f : Vec F S3136 .f32) (b : BitVec 32) (ix : IVec S512 32) : zeroed f 196 = hist b ix 0 := by
  funext j; exact if_pos (show (j 0).val < 3136 from (j 0).isLt)

theorem zeroed_write (f : Vec F S3136 .f32) (k : Fin 196) :
    View.write (Elt F) ((sH).access (Rect.unit (s := S3136) ![16 * k.val] S16.size (inb_hist k))) (zeroed f k.val) (zeros16 (F := F)) Finset.univ
      = zeroed f (k.val + 1) := by
  funext (j : S3136.Idx)
  by_cases h : j ∈ (Rect.unit (s := S3136) ![16 * k.val] S16.size (inb_hist k)).set
  · have hj := Rect.mem_set_unit.mp h 0
    obtain ⟨x, rfl⟩ := LoadRect.exists_idx_of_mem _ h
    refine (View.write_emb_of_mem (v := (sH).access (Rect.unit (s := S3136) ![16 * k.val] S16.size (inb_hist k))) _ _ (Finset.mem_univ x)).trans ?_
    exact (if_pos (show _ < 16 * (k.val + 1) from hj.2)).symm
  · refine (View.write_of_not_mem (v := (sH).access (Rect.unit (s := S3136) ![16 * k.val] S16.size (inb_hist k))) _ _ _ (fun h' => h ?_)).trans ?_
    · exact (View.set_slice_whole (cc1_scratch1 : Ref sig .scVector) (Rect.unit (s := S3136) ![16 * k.val] S16.size (inb_hist k))) ▸ h'
    · rw [Rect.mem_set_unit] at h
      have hj : ¬ (16 * k.val ≤ (j 0).val ∧ (j 0).val < 16 * k.val + 16) := fun hc => h fun a => by
        obtain rfl : a = (0 : Fin 1) := Subsingleton.elim (α := Fin 1) _ _
        exact hc
      unfold zeroed
      by_cases h1 : (j 0).val < 16 * k.val
      · rw [if_pos h1, if_pos (by omega)]
      · rw [if_neg h1, if_neg (by omega)]

theorem zero_step (f : Vec F S3136 .f32) (k : Fin 196) :
    hBuf d L (zeroed f k.val) ⊢ wp frame (wpE (defs₀ (F := F)) 𝒱₀ (thrV d L) none) Set.univ
      (zeroStep (p := .scVector (cV L) (jV L)) sH k) fun _ => hBuf d L (zeroed f (k.val + 1)) := by
  unfold zeroStep
  simp only [Prog.lift, Prog.bind_op, Prog.bind_ret, Prog.pure_eq_ret]
  iintro H
  iapply (wp_load 𝒱₀ (thrV d L) none Set.univ (m := sH) (S := Finset.univ) (Finset.subset_univ _)) $$ H; iintro H
  iapply (wp_store 𝒱₀ (thrV d L) none Set.univ (m := sH) (r := Rect.unit (s := S3136) ![16 * k.val] S16.size (inb_hist k)) (Mk := Finset.univ) (S := Finset.univ) (Finset.subset_univ _)) $$ H; iintro H
  rw [wp_ret]; imodintro
  rw [zeroed_write]
  iexact H

omit [FloatOps F] in
theorem group_read (ix : IVec S512 32) (k : Fin 32) :
    View.readAt (Elt F) (sI).view (Rect.unit (s := S512) ![16 * k.val] S16.size (inb_idx k)).toLoadRect ix = group ix k.val := by
  funext x
  simp only [View.readAt_apply, Memref.view_whole, View.read_whole]
  refine congrArg ix (funext fun a => Fin.ext ?_)
  obtain rfl : a = (0 : Fin 1) := Subsingleton.elim (α := Fin 1) _ _
  have := k.isLt
  have hx : (x 0).val < 16 := (x 0).isLt
  show 16 * k.val + 1 * (x 0).val = (16 * k.val + (x 0).val) % 512
  omega

omit [FloatOps F] in
theorem pts_whole (f : Vec F S3136 .f32) :
    (((sH).access (.whole S3136)).loc (thrV d L) ↦[((sH).access (.whole S3136)).set]{fullShare} f : sProp 𝕄) = hBuf d L f := by
  rw [show ((sH).access (.whole S3136)).set = Finset.univ from Memref.set_access_whole (cc1_scratch1 : Ref sig .scVector)]

theorem scat_write (b : BitVec 32) (v : IVec S16 32) (f : Vec F S3136 .f32) :
    View.write (Elt F) ((sH).access (.whole S3136)) f
        (storeIdx (View.read (Elt F) ((sH).access (.whole S3136)) f) ![clamp b v] (unit16 (F := F)) (inBins b v) true (k1_idx1_inb _ (clamp_lt b v))) Finset.univ
      = scat b v f := by
  refine (Memref.write_access_whole_univ (Elt F) (cc1_scratch1 : Ref sig .scVector) _ _).trans ?_
  unfold scat
  exact congrArg (fun g => storeIdx g ![clamp b v] (unit16 (F := F)) (inBins b v) true (k1_idx1_inb _ (clamp_lt b v))) (Memref.read_access_whole (Elt F) (cc1_scratch1 : Ref sig .scVector) f)

theorem pts_scat (b : BitVec 32) (v : IVec S16 32) (f : Vec F S3136 .f32) :
    (((sH).access (.whole S3136)).loc (thrV d L) ↦[((sH).access (.whole S3136)).set]{fullShare} View.write (Elt F) ((sH).access (.whole S3136)) f
        (storeIdx (View.read (Elt F) ((sH).access (.whole S3136)) f) ![clamp b v] (unit16 (F := F)) (inBins b v) true (k1_idx1_inb _ (clamp_lt b v))) Finset.univ : sProp 𝕄)
      = hBuf d L (scat b v f) := by
  rw [scat_write, pts_whole]

theorem hist_succ (b : BitVec 32) (ix : IVec S512 32) (n : ℕ) : hist (F := F) b ix (n + 1) = scat b (group ix n) (hist b ix n) := rfl

theorem scat_step (b : BitVec 32) (ix : IVec S512 32) (k : Fin 32) :
    iprop(((sI).view.loc (thrV d L) ↦{fullShare} ix) ∗ hBuf d L (hist b ix k.val)) ⊢ wp frame (wpE (defs₀ (F := F)) 𝒱₀ (thrV d L) none) Set.univ
      (scatStep (p := .scVector (cV L) (jV L)) sI sH b k) fun _ => iprop(((sI).view.loc (thrV d L) ↦{fullShare} ix) ∗ hBuf d L (hist b ix (k.val + 1))) := by
  unfold scatStep
  simp only [Prog.lift, Prog.bind_op, Prog.bind_ret, Prog.pure_eq_ret]
  iintro ⟨Hi, H⟩
  iapply (wp_load 𝒱₀ (thrV d L) none Set.univ (m := sI) (S := Finset.univ) (Finset.subset_univ _)) $$ Hi; iintro Hi
  rw [group_read, wp_assume_of _ _ _ _ (clamp_lt b _)]
  ihave H := (Entails.of_eq (pts_whole (F := F) d L _).symm) $$ H
  rw [← Prog.bind_pure (SparseCore.vectorStoreIdx _ _ _ _ _ _ _)]
  iapply (SparseCore.wp_vectorStoreIdx 𝒱₀ (thrV d L) none Set.univ (base := sH)) $$ H; iintro H
  rw [wp_pure]; imodintro
  isplitl [Hi]; · iexact Hi
  rw [hist_succ]
  iapply (Entails.of_eq (pts_scat (F := F) d L b (group ix k.val) (hist b ix k.val)))
  iexact H

/-! ### The subcore's own semaphores and buffers -/

abbrev cA : GSem nD τ sig := (V d (cV L) (jV L), .dma cc1_scratch2.sem)
abbrev cB : GSem nD τ sig := (V d (cV L) (jV L), .dma cc1_scoped0.sem)

omit [FloatOps F] in
theorem ownSems0_V :
    (ownSems0 (thrV d L) : sProp 𝕄)
      = iprop(semVal (cA d L) 0 ∗ semVal (cB d L) 0 ∗ bigSep (((ownCells (thrV d L)).erase (cA d L)).erase (cB d L)) fun g => semVal g 0) := by
  unfold SparseCore.Cfg.ownSems0
  rw [SparseCore.bigSep_erase' ((mem_ownCells (g := cA d L)).mpr ⟨rfl, by
      show (SemLoc.dma cc1_scratch2.sem : SemLoc sig).isScoped .scVector = true; decide⟩),
    SparseCore.bigSep_erase' (Finset.mem_erase.mpr ⟨by simp [cA, cB]; decide, (mem_ownCells (g := cB d L)).mpr ⟨rfl, by
      show (SemLoc.dma cc1_scoped0.sem : SemLoc sig).isScoped .scVector = true; decide⟩⟩)]

omit [FloatOps F] in
/-- The two scratch buffers are among the subcore's own: they are them, at some contents, and the rest. -/
theorem ownBufs_V :
    (ownBufs (thrV d L) : sProp 𝕄)
      = iprop((∃ f, (thrV d L).loc cc1_scratch0 ↦{fullShare} f) ∗ (∃ f, (thrV d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ### The arrays as the subcore's memrefs address them -/

abbrev oWin (L : grid1.Coords) : Memref sig .scVector .hbm S3136 .f32 := (oW).slice (win L) (fun _ => rfl)

omit [FloatOps F] in
theorem pts_ix (q : PosShare TreeShare) (f : Buf (Elt F) (ixLoc d)) :
    ((iW).view.loc (thrV d L) ↦{q} f : sProp 𝕄) = ixLoc d ↦{q} f := by
  simp only [Memref.view_whole, View.set_whole]
omit [FloatOps F] in
theorem set_oWin : (oWin L).view.set = winSet L := View.set_slice_whole (main_v2_scv : Ref sig .scVector) (win L)
omit [FloatOps F] in
theorem pts_oWin (f : Buf (Elt F) (hLoc d)) :
    ((oWin L).view.loc (thrV d L) ↦[(oWin L).view.set]{fullShare} f : sProp 𝕄) = hLoc d ↦[winSet L]{fullShare} f := by
  rw [set_oWin]

omit [FloatOps F] in
theorem pts_sI (f : Buf (Elt F) ((thrV d L).loc cc1_scratch0)) :
    ((sI).view.loc (thrV d L) ↦{fullShare} f : sProp 𝕄) = (thrV d L).loc cc1_scratch0 ↦{fullShare} f := rfl
omit [FloatOps F] in
theorem pts_sH (f : Buf (Elt F) ((thrV d L).loc cc1_scratch1)) :
    ((sH).view.loc (thrV d L) ↦{fullShare} f : sProp 𝕄) = (thrV d L).loc cc1_scratch1 ↦{fullShare} f := rfl

omit [FloatOps F] in
theorem fetched (fs : Buf (Elt F) ((thrV d L).loc cc1_scratch0)) (ix : Buf (Elt F) (ixLoc d))
    (w : S512.Idx → Elt F .i32) (hw : w = View.read (Elt F) (iW).view ix) :
    ((sI).view.loc (thrV d L) ↦{fullShare} View.write (Elt F) (sI).view fs w Finset.univ : sProp 𝕄)
      = (sI).view.loc (thrV d L) ↦{fullShare} ix :=
  congrArg (fun f => ((sI).view.loc (thrV d L) ↦{fullShare} f : sProp 𝕄)) ((View.write_whole_univ _ _ _).trans hw)

omit [FloatOps F] in
theorem baseW_eq : ∀ L : grid1.Coords, baseW L = BitVec.ofNat 32 (3136 * (2 * (L 1).val + (L 0).val)) := by decide +kernel

theorem outOf_win (ix : Buf (Elt F) (ixLoc d)) (x : S3136.Idx) : outOf (F := F) ix ((win L).emb x) = hist (baseW L) ix 32 x := by
  have e : (((win L).emb x) 0).val = 3136 * (2 * (L 1).val + (L 0).val) + (x 0).val := by
    show (k1_off1 L) 0 + 1 * (x 0).val = _
    rw [k1_off1_eq]
    show 6272 * (L 1).val + 3136 * (L 0).val + 1 * (x 0).val = _
    omega
  have hx : (x 0).val < 3136 := (x 0).isLt
  unfold outOf
  rw [e, baseW_eq, show (3136 * (2 * (L 1).val + (L 0).val) + (x 0).val) / 3136 = 2 * (L 1).val + (L 0).val by omega]
  refine congrArg _ (funext fun a => Fin.ext ?_)
  obtain rfl : a = (0 : Fin 1) := Subsingleton.elim (α := Fin 1) _ _
  show (3136 * (2 * (L 1).val + (L 0).val) + (x 0).val) % 3136 = (x 0).val
  omega

/-- What the write-out lands in the tile's window is that window of `outOf`. -/
theorem landed (g : Buf (Elt F) (hLoc d)) (ix : Buf (Elt F) (ixLoc d)) (w : S3136.Idx → Elt F .f32)
    (hw : w = View.read (Elt F) (sH).view (hist (baseW L) ix 32)) :
    ((oWin L).view.loc (thrV d L) ↦[(oWin L).view.set]{fullShare} (oWin L).view.writes (Elt F) g [⟨Rect.whole S3136, w⟩] : sProp 𝕄)
      = hLoc d ↦[winSet L]{fullShare} outOf ix := by
  subst hw
  refine Eq.trans ?_ (pts_oWin (F := F) d L (outOf ix))
  refine pointsTo_congr fun i hi => ?_
  obtain ⟨x, -, rfl⟩ := Finset.mem_map.mp hi
  refine Eq.trans ?_ (outOf_win d L ix x).symm
  rw [← View.write_univ_eq_writes_whole]
  exact View.write_emb_of_mem (v := (oWin L).view) _ _ (Finset.mem_univ x)

/-- The task on vector subcore `(L 0, L 1)` of device `d`. -/
theorem tile_body (hF : (K (F := F)).Facts) (q : PosShare TreeShare) (ix : Buf (Elt F) (ixLoc d)) (g : Buf (Elt F) (hLoc d))
    (O : CellTallies nD τ sig (HIx 1)) (W : Waits sig (HIx 1)) (hO : ∀ g, O g none = 0) :
    iprop(levAts (K (F := F)).L (K (F := F)).lev ∗ emp ∗ ((ixLoc d ↦{q} ix : sProp 𝕄) ∗ hLoc d ↦[winSet L]{fullShare} g)
        ∗ scopedBufs (thrV d L) ∗ scopedSems0 (thrV d L) ∗ owes (thrV d L) O W)
      ⊢ wp frame (wpE (defs₀ (F := F)) 𝒱₀ (thrV d L) none) Set.univ
          (cc1__hist_body L iW (Memref.isWhole_whole _) oW (Memref.isWhole_whole _) sI (Memref.isWhole_whole _) sH (Memref.isWhole_whole _) cc1_scratch2 cc1_scoped0)
          fun _ => iprop(((ixLoc d ↦{q} ix) ∗ hLoc d ↦[winSet L]{fullShare} outOf ix) ∗ scopedBufs (thrV d L) ∗ scopedSems0 (thrV d L)
            ∗ ∃ W', ⌜∀ p ∈ W', p ∈ W ∨ p.2 = none⌝ ∗ owes (thrV d L) O W') := by
  rw [hist_body_eq]; unfold histBody
  have hZ := fun f : Vec F S3136 .f32 => wp_each frame (wpE (defs₀ (F := F)) 𝒱₀ (thrV d L) none) Set.univ 196 (zeroStep (p := .scVector (cV L) (jV L)) sH) (fun n => hBuf d L (zeroed f n)) (fun k => zero_step d L f k)
  have hS := wp_each frame (wpE (defs₀ (F := F)) 𝒱₀ (thrV d L) none) Set.univ 32 (scatStep (p := .scVector (cV L) (jV L)) sI sH (baseW L))
    (fun n => iprop(((sI).view.loc (thrV d L) ↦{fullShare} ix) ∗ hBuf d L (hist (baseW L) ix n))) (fun k => scat_step d L (baseW L) ix k)
  revert hZ hS
  generalize each 196 (zeroStep (F := F) (p := .scVector (cV L) (jV L)) sH) = Z
  generalize each 32 (scatStep (F := F) (p := .scVector (cV L) (jV L)) sI sH (baseW L)) = Sc
  intro hZ hS
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  iintro ⟨#Hlv, -, ⟨Hi, Ho⟩, ⟨⟨%fs, Hs⟩, ⟨%fc, Hc⟩, Hbufs⟩, ⟨HsemA, HsemB, Hsems⟩, HO⟩
  ihave Hmw := ((K (F := F)).mayWaits_none (thr := thrV d L) hO) $$ Hlv
  ihave Hi := (Entails.of_eq (pts_ix (F := F) d L q _).symm) $$ Hi
  ihave Ho := (Entails.of_eq (pts_oWin (F := F) d L _).symm) $$ Ho
  ihave Hs := (Entails.of_eq (pts_sI (F := F) d L _).symm) $$ Hs
  ihave Hc := (Entails.of_eq (pts_sH (F := F) d L _).symm) $$ Hc
  sl_exec
  -- the zeroing stores
  ihave Hc := (((Entails.of_eq (congrArg (hBuf d L) (zeroed_zero fc).symm)).trans (hZ fc)).trans
    (wp_mono frame _ _ fun _ => Entails.of_eq (congrArg (hBuf d L) (zeroed_all fc (baseW L) ix)))) $$ Hc
  rw [wp_bind]
  iapply (wp_wand frame (wpE (defs₀ (F := F)) 𝒱₀ (thrV d L) none) Set.univ) $$ Hc
  iintro %_ Hc
  -- the indices have landed
  sl_exec
  ihave Hs := (Entails.of_eq (fetched (F := F) d L fs ix (tile_body.sl.dma0 d ix) rfl)) $$ Hs
  -- the scattering stores
  ihave Hw := (hS) $$ [Hs Hc]
  · isplitl [Hs] <;> iassumption
  rw [wp_bind]
  iapply (wp_wand frame (wpE (defs₀ (F := F)) 𝒱₀ (thrV d L) none) Set.univ) $$ Hw
  iintro %_ ⟨Hs, Hc⟩
  -- the write-out
  sl_exec
  sl_step
  ihave Hi := (Entails.of_eq (pts_ix (F := F) d L q _)) $$ Hi
  ihave Ho := (Entails.of_eq (landed (F := F) d L g ix (tile_body.sl.dma0_1 d L ix) rfl)) $$ Ho
  isplitl [Hi Ho]
  · isplitl [Hi]; · iexact Hi
    iexact Ho
  isplitl [Hs Hc Hbufs]
  · isplitl [Hs]
    · iexists _; iapply (Entails.of_eq (pts_sI (F := F) d L _)); iexact Hs
    isplitl [Hc]
    · iexists _; iapply (Entails.of_eq (pts_sH (F := F) d L _)); iexact Hc
    · iexact Hbufs
  isplitl [HsemA HsemB Hsems]
  · isplitl [HsemA]; · iexact HsemA
    isplitl [HsemB]; · iexact HsemB
    iexact Hsems
  iexists _; isplitr
  rotate_left
  · iexact HO
  ipureintro; intro p hp
  rcases Finset.mem_insert.mp hp with rfl | hp
  · exact .inr rfl
  rcases Finset.mem_insert.mp hp with rfl | hp
  · exact .inr rfl
  · exact .inl hp

end Tile

end Cert.Proof.Pool
-- ==== Proof.RegionBody.lean ====
/-
  The TensorCore kernel at one grid point, at symbolic staging memrefs: at the first point it stores the block's
  column maxima and their row numbers, at a later one it replaces the running maximum and its row number wherever
  the block's maximum is greater.
-/
module

public import proofs.«01_k».proof.Proof.Tile
public import proofs.«01_k».proof.Proof.Gen.KernelIdeal.Skeleton
public import proofs.«01_k».proof.Proof.Gen.KernelIdeal.Points
public import Idealize.ShloMosaic.Lib.Pipeline.Frame
public import Idealize.ShloMosaic.Lib.WholeRead
public import Idealize.ShloMosaic.Lib.Writes
public import Idealize.ShloMosaic.Lib.VecWindow

@[expose] public section

noncomputable section

namespace Cert.Proof.Pool

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (c : Dev nD) (i : grid0.Coords)
  {M1 : Memref sig .tc .vmem S10000x128 .f32} (h1 : M1.IsWhole) {M2 : Memref sig .tc .vmem S10000x128 .f32} (h2 : M2.IsWhole)
  {M3 : Memref sig .tc .vmem S10000x128 .f32} (h3 : M3.IsWhole) {M4 : Memref sig .tc .vmem S10000x128 .f32} (h4 : M4.IsWhole)
  {M5 : Memref sig .tc .vmem S1x512 .f32} (h5 : M5.IsWhole) {M6 : Memref sig .tc .vmem S1x512 .i32} (h6 : M6.IsWhole)

/-- A staging memref's elements held at raw contents. -/
abbrev held1 {sp : Space} {s : Shape} {e : EltTy} (M : Memref sig .tc sp s e) (f : Buf (Elt F) (M.view.loc (c : Thread nD τ))) : sProp 𝕄 :=
  M.view.loc (c : Thread nD τ) ↦[M.view.set]{fullShare} f

theorem held_of_read {sp : Space} {s : Shape} {e : EltTy} {M : Memref sig .tc sp s e} (h : M.IsWhole)
    {f : Buf (Elt F) (M.view.loc (c : Thread nD τ))} {X : s.Idx → Elt F e} (hf : M.view.read (Elt F) f = X) :
    held1 c M f ⊢ held1 c M (h.unread X) := by
  obtain rfl := h.eq_unread hf; exact .rfl

/-- A load of everything a whole memref holds. -/
theorem load_all {sp : Space} {s : Shape} {e : EltTy} {M : Memref sig .tc sp s e} (h : M.IsWhole) (X : s.Idx → Elt F e)
    {off : Fin s.rank → ℕ} (inb : ∀ a, off a + s.size a ≤ s.size a) :
    View.readAt (Elt F) M.view (Rect.unit off s.size inb).toLoadRect (h.unread X) = X := by
  funext x
  rw [h.readAt_unread]
  refine congrArg X (funext fun a => Fin.ext ?_)
  have h0 := inb a
  show off a + 1 * (x a).val = (x a).val
  omega

theorem body_first (hc1 : k0_cond1 i = 1#1) (hc2 : ¬ k0_cond2 i = 1#1) (X1 X2 X3 X4 : Vec F S10000x128 .f32)
    (f5 : Buf (Elt F) (M5.view.loc (c : Thread nD τ))) (f6 : Buf (Elt F) (M6.view.loc (c : Thread nD τ))) :
    iprop(held1 c M1 (h1.unread X1) ∗ held1 c M2 (h2.unread X2) ∗ held1 c M3 (h3.unread X3) ∗ held1 c M4 (h4.unread X4)
        ∗ held1 c M5 f5 ∗ held1 c M6 f6)
      ⊢ wp frame (wpE (defs₀ (F := F)) 𝒱₀ (c : Thread nD τ) none) Set.univ (cc0__maxpool_body i M1 h1 M2 h2 M3 h3 M4 h4 M5 h5 M6 h6)
        fun _ => iprop(held1 c M1 (h1.unread X1) ∗ held1 c M2 (h2.unread X2) ∗ held1 c M3 (h3.unread X3) ∗ held1 c M4 (h4.unread X4)
          ∗ held1 c M5 (h5.unread (k0_pay2 X1 X2 X3 X4)) ∗ held1 c M6 (h6.unread (k0_pay3 i X1 X2 X3 X4))) := by
  rw [cc0__maxpool_body_eq_skeleton]
  unfold cc0__maxpool_body_skel
  simp only [dif_pos hc1, dif_neg hc2]
  iintro ⟨H1, H2, H3, H4, H5, H6⟩
  sl_exec!
  sl_step
  isplitl [H1]; · iexact H1
  isplitl [H2]; · iexact H2
  isplitl [H3]; · iexact H3
  isplitl [H4]; · iexact H4
  isplitl [H5]
  · iapply (held_of_read c h5 ?_) $$ H5
    unfold body_first.sl.H5_1
    exact (View.read_writes_full M5.view _ _ _ []).trans (by rw [load_all h1 X1, load_all h2 X2, load_all h3 X3, load_all h4 X4])
  · iapply (held_of_read c h6 ?_) $$ H6
    unfold body_first.sl.H6_1
    exact (View.read_writes_full M6.view _ _ _ []).trans (by rw [load_all h1 X1, load_all h2 X2, load_all h3 X3, load_all h4 X4])

theorem body_later (hc1 : ¬ k0_cond1 i = 1#1) (hc2 : k0_cond2 i = 1#1) (X1 X2 X3 X4 : Vec F S10000x128 .f32)
    (X5 : Vec F S1x512 .f32) (X6 : Vec F S1x512 .i32) :
    iprop(held1 c M1 (h1.unread X1) ∗ held1 c M2 (h2.unread X2) ∗ held1 c M3 (h3.unread X3) ∗ held1 c M4 (h4.unread X4)
        ∗ held1 c M5 (h5.unread X5) ∗ held1 c M6 (h6.unread X6))
      ⊢ wp frame (wpE (defs₀ (F := F)) 𝒱₀ (c : Thread nD τ) none) Set.univ (cc0__maxpool_body i M1 h1 M2 h2 M3 h3 M4 h4 M5 h5 M6 h6)
        fun _ => iprop(held1 c M1 (h1.unread X1) ∗ held1 c M2 (h2.unread X2) ∗ held1 c M3 (h3.unread X3) ∗ held1 c M4 (h4.unread X4)
          ∗ held1 c M5 (h5.unread (k0_pay6 X1 X2 X3 X4 X5 X5)) ∗ held1 c M6 (h6.unread (k0_pay5 i X1 X2 X3 X4 X5 X6))) := by
  rw [cc0__maxpool_body_eq_skeleton]
  unfold cc0__maxpool_body_skel
  simp only [dif_neg hc1, dif_pos hc2]
  iintro ⟨H1, H2, H3, H4, H5, H6⟩
  sl_exec!
  sl_step
  isplitl [H1]; · iexact H1
  isplitl [H2]; · iexact H2
  isplitl [H3]; · iexact H3
  isplitl [H4]; · iexact H4
  isplitl [H5]
  · iapply (held_of_read c h5 ?_) $$ H5
    unfold body_later.sl.H5_1
    exact (View.read_writes_full M5.view _ _ _ []).trans (by rw [load_all h1 X1, load_all h2 X2, load_all h3 X3, load_all h4 X4, load_all h5 X5])
  · iapply (held_of_read c h6 ?_) $$ H6
    unfold body_later.sl.H6_1
    exact (View.read_writes_full M6.view _ _ _ []).trans (by rw [load_all h1 X1, load_all h2 X2, load_all h3 X3, load_all h4 X4, load_all h5 X5, load_all h6 X6])

end Cert.Proof.Pool

end
-- ==== Proof.Region.lean ====
/-
  The TensorCore kernel as a region of the program's main thread: over its ten grid points, what each point leaves in
  the two results' staging buffers (`acc`), the body's obligation at every point, and the region entered from the
  thread's unscoped buffers at any contents and left with the two results written.
-/
module

public import proofs.«01_k».proof.Proof.RegionBody
public import proofs.«01_k».proof.Proof.Gen.KernelIdeal.Launch
public import Idealize.ShloMosaic.Lib.Pipeline.RegionsLoop
public import Idealize.ShloMosaic.Lib.Pipeline.RegionArrays
public import Idealize.ShloMosaic.Lib.Pipeline.FrameBody
public import Idealize.ShloMosaic.Lib.Pipeline.Value
public import Idealize.ShloMosaic.Lib.LaneScatter.Own

@[expose] public section

noncomputable section

namespace Cert.Proof.Pool

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 1) (Elt F) ℕ UU ℕ

/-! ## What the region computes -/

/-- Grid point `n` (mod 10). -/
def pt (n : ℕ) : Fin cfg0.N := ⟨n % 10, lt_of_lt_of_eq (Nat.mod_lt _ (by decide)) N_0.symm⟩

theorem pt_val (t : Fin cfg0.N) : pt t.val = t := Fin.ext (Nat.mod_eq_of_lt (lt_of_lt_of_eq t.isLt N_0))

/-- The four column blocks of the input at a point. -/
def xb0 (x : Vec F S100000x512 .f32) (t : Fin cfg0.N) : Vec F S10000x128 .f32 := ((cfg0.win 0).blk t).view.read (Elt F) x
def xb1 (x : Vec F S100000x512 .f32) (t : Fin cfg0.N) : Vec F S10000x128 .f32 := ((cfg0.win 1).blk t).view.read (Elt F) x
def xb2 (x : Vec F S100000x512 .f32) (t : Fin cfg0.N) : Vec F S10000x128 .f32 := ((cfg0.win 2).blk t).view.read (Elt F) x
def xb3 (x : Vec F S100000x512 .f32) (t : Fin cfg0.N) : Vec F S10000x128 .f32 := ((cfg0.win 3).blk t).view.read (Elt F) x

/-- The running maxima and their row numbers after point `n`. -/
def acc (x : Vec F S100000x512 .f32) : ℕ → Vec F S1x512 .f32 × Vec F S1x512 .i32
  | 0 => (k0_pay2 (xb0 x (pt 0)) (xb1 x (pt 0)) (xb2 x (pt 0)) (xb3 x (pt 0)),
      k0_pay3 (grid0.coords (pt 0)) (xb0 x (pt 0)) (xb1 x (pt 0)) (xb2 x (pt 0)) (xb3 x (pt 0)))
  | n + 1 => (k0_pay6 (xb0 x (pt (n + 1))) (xb1 x (pt (n + 1))) (xb2 x (pt (n + 1))) (xb3 x (pt (n + 1))) (acc x n).1 (acc x n).1,
      k0_pay5 (grid0.coords (pt (n + 1))) (xb0 x (pt (n + 1))) (xb1 x (pt (n + 1))) (xb2 x (pt (n + 1))) (xb3 x (pt (n + 1)))
        (acc x n).1 (acc x n).2)

theorem acc_first (x : Vec F S100000x512 .f32) (t : Fin cfg0.N) (h : t.val = 0) :
    acc x t.val = (k0_pay2 (xb0 x t) (xb1 x t) (xb2 x t) (xb3 x t), k0_pay3 (grid0.coords t) (xb0 x t) (xb1 x t) (xb2 x t) (xb3 x t)) := by
  obtain rfl : t = pt 0 := Fin.ext h
  rfl

theorem acc_later (x : Vec F S100000x512 .f32) (t : Fin cfg0.N) (n : ℕ) (h : t.val = n + 1) :
    acc x t.val = (k0_pay6 (xb0 x t) (xb1 x t) (xb2 x t) (xb3 x t) (acc x n).1 (acc x n).1,
      k0_pay5 (grid0.coords t) (xb0 x t) (xb1 x t) (xb2 x t) (xb3 x t) (acc x n).1 (acc x n).2) := by
  rw [h]
  obtain rfl : t = pt (n + 1) := (pt_val t).symm.trans (congrArg pt h)
  rfl

attribute [irreducible] acc

/-- The first and the second result: the column maxima and their row numbers. -/
def maxOf (x : Vec F S100000x512 .f32) : Vec F S1x512 .f32 := (acc x 9).1
def idxOf (x : Vec F S100000x512 .f32) : Vec F S1x512 .i32 := (acc x 9).2

/-! ## The proof data -/

variable (d : Dev nD) (V : (b : Ref sig .tc) → Buf (Elt F) ((d : Thread nD τ).loc b))

abbrev wrec : Set (SemLoc sig × HIx 1) := {p | p.2 = none}

def dat (x : Vec F S100000x512 .f32) (c : Dev nD) (V : (b : Ref sig .tc) → Buf (Elt F) ((c : Thread nD τ).loc b)) :
    Dat τ (Elt F) (HIx 1) ℕ UU ℕ cfg0 c where
  A w := V (Pipeline.arrRef spec0 w)
  after w t := match w with
    | ⟨0, _⟩ => xb0 x t
    | ⟨1, _⟩ => xb1 x t
    | ⟨2, _⟩ => xb2 x t
    | ⟨3, _⟩ => xb3 x t
    | ⟨4, _⟩ => (acc x t.val).1
    | ⟨5, _⟩ => (acc x t.val).2
  Φ _ := BI.emp
  q w := Pipeline.shareOf spec0 w
  owed _ := (K (F := F)).Otc c 0
  recorded _ := wrec

section Body

variable (x : Vec F S100000x512 .f32) (hx : V main_arg0 = x)
include hx

theorem before0 (t) (e) : (dat x d V).before 0 t e = xb0 x t := by
  rw [(dat x d V).before_fetched 0 t (fetch0_0 t)]; subst hx; rfl
theorem before1 (t) (e) : (dat x d V).before 1 t e = xb1 x t := by
  rw [(dat x d V).before_fetched 1 t (fetch0_1 t)]; subst hx; rfl
theorem before2 (t) (e) : (dat x d V).before 2 t e = xb2 x t := by
  rw [(dat x d V).before_fetched 2 t (fetch0_2 t)]; subst hx; rfl
theorem before3 (t) (e) : (dat x d V).before 3 t e = xb3 x t := by
  rw [(dat x d V).before_fetched 3 t (fetch0_3 t)]; subst hx; rfl

omit hx in
theorem flush_false {w : Fin cfg0.W} (hw : ∀ t : Fin cfg0.N, (cfg0.win w).flush t = true ↔ t.val % 10 = 9) (t : Fin cfg0.N) (n : ℕ) (h : t.val = n + 1) (h') :
    (cfg0.win w).flush ⟨t.val - 1, h'⟩ = false := by
  rw [Bool.eq_false_iff]; intro hc
  have h1 := (hw _).mp hc
  have h2 : t.val < 10 := lt_of_lt_of_eq t.isLt N_0
  simp only at h1; omega

omit hx in
/-- No point is idle for a result: one of the two conditions holds at every point. -/
theorem idle4 (i : grid0.Coords) : idle0 4 i = false := by
  have h : ∀ n : Fin 10, idle0 4 (fun | 0 => n) = false := by decide
  exact h (i 0)
omit hx in
theorem idle5 (i : grid0.Coords) : idle0 5 i = false := idle4 i

omit hx in
theorem wh0 (t : Fin cfg0.N) : (st0_0 t).IsWhole := hstage0_0 ((cfg0.slots t 0).cast nbuf0_0)
omit hx in
theorem wh1 (t : Fin cfg0.N) : (st0_1 t).IsWhole := hstage0_1 ((cfg0.slots t 1).cast nbuf0_1)
omit hx in
theorem wh2 (t : Fin cfg0.N) : (st0_2 t).IsWhole := hstage0_2 ((cfg0.slots t 2).cast nbuf0_2)
omit hx in
theorem wh3 (t : Fin cfg0.N) : (st0_3 t).IsWhole := hstage0_3 ((cfg0.slots t 3).cast nbuf0_3)
omit hx in
theorem wh4 (t : Fin cfg0.N) : (st0_4 t).IsWhole := hstage0_4 ((cfg0.slots t 4).cast nbuf0_4)
omit hx in
theorem wh5 (t : Fin cfg0.N) : (st0_5 t).IsWhole := hstage0_5 ((cfg0.slots t 5).cast nbuf0_5)

omit hx in
theorem before4 (t : Fin cfg0.N) (n : ℕ) (h : t.val = n + 1) (e) : (dat x d V).before 4 t e = (acc x n).1 := by
  rw [(dat x d V).before_out_kept 4 rfl t (by omega) (flush_false flush0_4 t n h _) idle4 (fun _ _ => rfl)]
  show (acc x (t.val - 1)).1 = _
  rw [h]; rfl
omit hx in
theorem before5 (t : Fin cfg0.N) (n : ℕ) (h : t.val = n + 1) (e) : (dat x d V).before 5 t e = (acc x n).2 := by
  rw [(dat x d V).before_out_kept 5 rfl t (by omega) (flush_false flush0_5 t n h _) idle5 (fun _ _ => rfl)]
  show (acc x (t.val - 1)).2 = _
  rw [h]; rfl

omit hx in
theorem cond1_iff : ∀ t : Fin grid0.N, k0_cond1 (grid0.coords t) = 1#1 ↔ t.val = 0 := by decide
omit hx in
theorem cond2_iff : ∀ t : Fin grid0.N, k0_cond2 (grid0.coords t) = 1#1 ↔ t.val ≠ 0 := by decide

omit hx in
theorem to_held {sp : Space} {s : Shape} {e : EltTy} {M : Memref sig .tc sp s e} (h : M.IsWhole) {X Y : s.Idx → Elt F e} (hXY : Y = X) :
    (owns (Ix := HIx 1) (Name := ℕ) (U := UU) (Lvl := ℕ) (d : Thread nD τ) M fullShare Y : sProp 𝕄) ⊢ held1 d M (h.unread X) := by
  subst hXY; exact LaneScatter.owns_raw (d : Thread nD τ) M h Y
omit hx in
theorem of_held {sp : Space} {s : Shape} {e : EltTy} {M : Memref sig .tc sp s e} (h : M.IsWhole) (X : s.Idx → Elt F e) :
    held1 d M (h.unread X) ⊢ (owns (Ix := HIx 1) (Name := ℕ) (U := UU) (Lvl := ℕ) (d : Thread nD τ) M fullShare X : sProp 𝕄) :=
  LaneScatter.raw_owns (d : Thread nD τ) M (h.read_unread X)

omit hx in
theorem body_at (t : Fin cfg0.N) (e4) (e5) :
  iprop(held1 d (st0_0 t) ((wh0 t).unread (xb0 x t)) ∗ held1 d (st0_1 t) ((wh1 t).unread (xb1 x t))
      ∗ held1 d (st0_2 t) ((wh2 t).unread (xb2 x t)) ∗ held1 d (st0_3 t) ((wh3 t).unread (xb3 x t))
      ∗ owns (Ix := HIx 1) (Name := ℕ) (U := UU) (Lvl := ℕ) (d : Thread nD τ) (st0_4 t) fullShare ((dat x d V).before 4 t e4) ∗ owns (Ix := HIx 1) (Name := ℕ) (U := UU) (Lvl := ℕ) (d : Thread nD τ) (st0_5 t) fullShare ((dat x d V).before 5 t e5))
    ⊢ wp frame (wpE (defs₀ (F := F)) 𝒱₀ (d : Thread nD τ) none) Set.univ (bodyAt0 t)
      fun _ => iprop(held1 d (st0_0 t) ((wh0 t).unread (xb0 x t)) ∗ held1 d (st0_1 t) ((wh1 t).unread (xb1 x t))
      ∗ held1 d (st0_2 t) ((wh2 t).unread (xb2 x t)) ∗ held1 d (st0_3 t) ((wh3 t).unread (xb3 x t))
      ∗ held1 d (st0_4 t) ((wh4 t).unread (acc x t.val).1) ∗ held1 d (st0_5 t) ((wh5 t).unread (acc x t.val).2)) := by
  rcases Nat.eq_zero_or_eq_succ_pred t.val with hn | hn
  · rw [congrArg Prod.fst (acc_first x t hn), congrArg Prod.snd (acc_first x t hn)]
    dsimp only
    have hb : iprop(owns (Ix := HIx 1) (Name := ℕ) (U := UU) (Lvl := ℕ) (d : Thread nD τ) (st0_4 t) fullShare ((dat x d V).before 4 t e4) ∗ owns (Ix := HIx 1) (Name := ℕ) (U := UU) (Lvl := ℕ) (d : Thread nD τ) (st0_5 t) fullShare ((dat x d V).before 5 t e5))
        ⊢ iprop(held1 d (st0_4 t) ((wh4 t).unread ((dat x d V).before 4 t e4)) ∗ held1 d (st0_5 t) ((wh5 t).unread ((dat x d V).before 5 t e5))) :=
      BI.sep_mono (to_held d (wh4 t) rfl) (to_held d (wh5 t) rfl)
    generalize (dat x d V).before 4 t e4 = Y4 at hb ⊢
    generalize (dat x d V).before 5 t e5 = Y5 at hb ⊢
    have c1 : k0_cond1 (grid0.coords t) = 1#1 := (cond1_iff t).mpr hn
    have c2 : ¬ k0_cond2 (grid0.coords t) = 1#1 := (not_congr (cond2_iff t)).mpr (not_not_intro hn)
    have hw := body_first d (grid0.coords t) (wh0 t) (wh1 t) (wh2 t) (wh3 t) (wh4 t) (wh5 t) c1 c2
      (xb0 x t) (xb1 x t) (xb2 x t) (xb3 x t) ((wh4 t).unread Y4) ((wh5 t).unread Y5)
    exact (sep_mono .rfl (sep_mono .rfl (sep_mono .rfl (sep_mono .rfl hb)))).trans hw
  · generalize t.val.pred = n at hn
    rw [acc_later x t n hn]
    exact (sep_mono .rfl (sep_mono .rfl (sep_mono .rfl (sep_mono .rfl (sep_mono (to_held d _ (before4 d V x t n hn e4)) (to_held d _ (before5 d V x t n hn e5))))))).trans
      (body_later d (grid0.coords t) (wh0 t) (wh1 t) (wh2 t) (wh3 t) (wh4 t) (wh5 t)
        (fun h => absurd ((cond1_iff t).mp h) (by omega)) ((cond2_iff t).mpr (by omega)) (xb0 x t) (xb1 x t) (xb2 x t) (xb3 x t) (acc x n).1 (acc x n).2)

theorem body_obligation : BodyObligation (dat x d V) (defs₀ (F := F)) 𝒱₀ none Set.univ := fun t => by
  rw [bigSep_W0, bigSep_W0]
  simp only
  rw [show idle0 4 (grid0.coords t) = false from idle4 _]
  simp only
  show _ ⊢ wp _ _ _ (bodyAt0 t) _
  rw [show (dat x d V).Φ t.castSucc = BI.emp from rfl, show (dat x d V).Φ t.succ = BI.emp from rfl,
    show (dat x d V).owesAt none t.succ = (dat x d V).owesAt none t.castSucc from rfl]
  iintro ⟨-, HO, ⟨%e0, H0⟩, ⟨%e1, H1⟩, ⟨%e2, H2⟩, ⟨%e3, H3⟩, ⟨%e4, H4⟩, ⟨%e5, H5⟩⟩
  ihave H0 := (to_held d (wh0 t) (before0 d V x hx t e0)) $$ H0
  ihave H1 := (to_held d (wh1 t) (before1 d V x hx t e1)) $$ H1
  ihave H2 := (to_held d (wh2 t) (before2 d V x hx t e2)) $$ H2
  ihave H3 := (to_held d (wh3 t) (before3 d V x hx t e3)) $$ H3
  ihave HW := (body_at d V x t e4 e5) $$ [H0 H1 H2 H3 H4 H5]
  · isplitl [H0]; · iexact H0
    isplitl [H1]; · iexact H1
    isplitl [H2]; · iexact H2
    isplitl [H3]; · iexact H3
    isplitl [H4] <;> iassumption
  iapply (wp_wand frame (wpE (defs₀ (F := F)) 𝒱₀ (d : Thread nD τ) none) Set.univ) $$ HW
  iintro %_ ⟨H0, H1, H2, H3, H4, H5⟩
  isplitr; · iempintro
  isplitl [HO]; · iexact HO
  isplitl [H0]; · iapply (of_held d _ _) $$ H0
  isplitl [H1]; · iapply (of_held d _ _) $$ H1
  isplitl [H2]; · iapply (of_held d _ _) $$ H2
  isplitl [H3]; · iapply (of_held d _ _) $$ H3
  isplitl [H4]; · iapply (of_held d _ _) $$ H4
  iapply (of_held d _ _) $$ H5

end Body

end Cert.Proof.Pool

end
-- ==== Proof.Segment.lean ====
/-
  The pooling region as one step of @main: entered with every unscoped buffer of the TensorCore held, left with
  the same buffers held and the two results at the column maxima and at the numbers of the rows they were found in.
-/
module

public import proofs.«01_k».proof.Proof.Region

@[expose] public section

noncomputable section

namespace Cert.Proof.Pool

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat (V c main_arg0) c (V c)

/-- The buffers after the region. -/
def pooled (c : Dev nD) : (b : Ref sig .tc) → Buf (Elt F) ((c : Thread nD τ).loc b) :=
  Function.update (Function.update (V c) main_v0_0 (maxOf (V c main_arg0))) main_v0_1 (idxOf (V c main_arg0))

theorem pooled_max (c : Dev nD) : pooled V c main_v0_0 = maxOf (V c main_arg0) := by
  unfold pooled
  rw [Function.update_of_ne (by decide), Function.update_self]
theorem pooled_idx (c : Dev nD) : pooled V c main_v0_1 = idxOf (V c main_arg0) := by
  unfold pooled
  rw [Function.update_self]
theorem pooled_ne (c : Dev nD) (b : Ref sig .tc) (h0 : b ≠ main_v0_0) (h1 : b ≠ main_v0_1) : pooled V c b = V c b := by
  unfold pooled
  rw [Function.update_of_ne h1, Function.update_of_ne h0]

/-- A result's array is one block, written back after the last point. -/
theorem last_of_flush {w : Fin cfg0.W} (hw : ∀ t : Fin cfg0.N, (cfg0.win w).flush t = true ↔ t.val % 10 = 9) (t : Fin cfg0.N)
    (h : (cfg0.win w).flush t = true) : t = pt 9 := by
  have h1 := (hw t).mp h
  have h2 : t.val < 10 := lt_of_lt_of_eq t.isLt N_0
  exact Fin.ext (by rw [pt]; simp only; omega)

theorem at_zero4 : (fun a => win0_4.index (pt 9) a * main_v0_0.ty.shape.size a) = fun _ => 0 := funext fun a => by fin_cases a <;> decide +kernel

theorem end_max (c : Dev nD) (x : Vec F S100000x512 .f32) (U : (b : Ref sig .tc) → Buf (Elt F) ((c : Thread nD τ).loc b)) :
    (dat x c U).arrAt 4 cfg0.N = maxOf x := by
  refine (dat x c U).arrAt_eq_of_cover 4 (maxOf x) (fun t ht => ?_) fun i => ⟨pt 9, (flush0_4 _).mpr rfl, ?_⟩
  · obtain rfl := last_of_flush flush0_4 t ht
    exact (Memref.read_access_unit_zero (Elt F) main_v0_0 at_zero4 (fun a => by rw [congrFun at_zero4 a]; simp) (maxOf x)).symm
  · show i ∈ ((View.whole main_v0_0).slice (win0_4.rect (pt 9))).set
    rw [View.set_slice_whole, Rect.mem_set_unit]
    intro a
    have h := (i a).isLt
    have hz : win0_4.kind.off (win0_4.index (pt 9) a) (win0_4.size a) = 0 := congrFun at_zero4 a
    have hs : win0_4.xsize (grid0.coords (pt 9)) a = main_v0_0.ty.shape.size a := by fin_cases a <;> decide +kernel
    exact ⟨(le_of_eq hz).trans (Nat.zero_le _), lt_of_lt_of_eq h (by rw [hz, hs, Nat.zero_add])⟩

theorem at_zero5 : (fun a => win0_5.index (pt 9) a * main_v0_1.ty.shape.size a) = fun _ => 0 := funext fun a => by fin_cases a <;> decide +kernel

theorem end_idx (c : Dev nD) (x : Vec F S100000x512 .f32) (U : (b : Ref sig .tc) → Buf (Elt F) ((c : Thread nD τ).loc b)) :
    (dat x c U).arrAt 5 cfg0.N = idxOf x := by
  refine (dat x c U).arrAt_eq_of_cover 5 (idxOf x) (fun t ht => ?_) fun i => ⟨pt 9, (flush0_5 _).mpr rfl, ?_⟩
  · obtain rfl := last_of_flush flush0_5 t ht
    exact (Memref.read_access_unit_zero (Elt F) main_v0_1 at_zero5 (fun a => by rw [congrFun at_zero5 a]; simp) (idxOf x)).symm
  · show i ∈ ((View.whole main_v0_1).slice (win0_5.rect (pt 9))).set
    rw [View.set_slice_whole, Rect.mem_set_unit]
    intro a
    have h := (i a).isLt
    have hz : win0_5.kind.off (win0_5.index (pt 9) a) (win0_5.size a) = 0 := congrFun at_zero5 a
    have hs : win0_5.xsize (grid0.coords (pt 9)) a = main_v0_1.ty.shape.size a := by fin_cases a <;> decide +kernel
    exact ⟨(le_of_eq hz).trans (Nat.zero_le _), lt_of_lt_of_eq h (by rw [hz, hs, Nat.zero_add])⟩

/-- What the TensorCore still owes the SparseCores while the region runs, and that nothing it waits on is above that. -/
def owing (c : Dev nD) : sProp 𝕄 := iprop(∃ W, ⌜∀ p ∈ W, p.2 = none⌝ ∗ owes (c : Thread nD τ) ((K (F := F)).Otc c 0) W)

set_option backward.isDefEq.respectTransparency.types false in
/-- The region over the thread state. -/
def reg : Pipeline.RegionSeg (pcfgs (F := F)) adm (pdats V) none defs₀ 𝒱₀ (K (F := F)).L (K (F := F)).lev 0 where
  win := winFacts₀0
  block_pos := block_pos0
  stage_whole := stage_whole0
  K := PEmpty
  osem k := k.elim
  ho := Pipeline.OwnSemFacts.none _
  hbody c := (body_obligation c (V c) (V c main_arg0) rfl).loose
  hwaits c := Pipeline.cellsWaits_of_cut (Pipeline.pin (pcfgs (F := F)) adm) (pdats V) none 0 c 0 ((K (F := F)).Otc c 0) (fun _ => rfl)
    (fun _ _ => Finset.mem_univ _) (fun _ _ => le_of_eq rfl)
    (fun _ _ h => ⟨Finset.mem_univ _, lt_of_lt_of_le (Nat.succ_pos _) (SparseCore.Cfg.lev_of_Otc_pos h)⟩)
  pre c := iprop(unscopedBufs c (V c) ∗ owing c)
  post c := iprop(unscopedBufs c (pooled V c) ∗ owing c)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs_shared (p := 0) (pcfgs (F := F)) adm (pdats V) winFacts₀0 sharedIn0 arr_whole0 c
      (fun _ _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owing Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show (pdats V 0 c).Φ (Fin.last _) = BI.emp from rfl]
    iintro -
    isplitr; · iempintro
    isplitr; · iempintro
    iapply (Entails.of_eq (scopedRest0_eq c).symm)
    iempintro
  hexit c := by
    have hjoin := Pipeline.unscopedBufs_of_arrays_shared (p := 0) (pcfgs (F := F)) adm (Ix := HIx 1) (Name := ℕ) (U := UU) (Lvl := ℕ) winFacts₀0 sharedIn0 arr_whole0 c
      (pdats V) (fun _ _ => rfl) (V c) (pooled V c) ((pdats V 0 c).arrAt · cfg0.N)
      (fun w => by
        fin_cases w
        · exact ((pdats V 0 c).arrAt_in 0 rfl _).trans (pooled_ne V c main_arg0 (by decide) (by decide)).symm
        · exact ((pdats V 0 c).arrAt_in 1 rfl _).trans (pooled_ne V c main_arg0 (by decide) (by decide)).symm
        · exact ((pdats V 0 c).arrAt_in 2 rfl _).trans (pooled_ne V c main_arg0 (by decide) (by decide)).symm
        · exact ((pdats V 0 c).arrAt_in 3 rfl _).trans (pooled_ne V c main_arg0 (by decide) (by decide)).symm
        · exact (end_max c _ (V c)).trans (pooled_max V c).symm
        · exact (end_idx c _ (V c)).trans (pooled_idx V c).symm)
      (fun b hb => pooled_ne V c b (fun h => hb (h ▸ Finset.mem_image.mpr ⟨4, Finset.mem_univ _, rfl⟩))
        fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold owing Pipeline.Dat.owesAt Pipeline.owesWithin
    icases HO with ⟨%W, %hW, HO⟩; iexists W
    isplitr; swap; · iexact HO
    ipureintro; intro p hp
    rcases hW hp with h | ⟨_, _, rfl⟩
    · exact h
    · rfl

end Cert.Proof.Pool

end
-- ==== Proof.Deal.lean ====
/-
  How the launch deals the SparseCore call's buffers: the 512 indices lent to every vector subcore, the histogram
  cut into thirty-two windows of 3136 bins. From that and the subcore's run, the launch theorem's obligations.
-/
module

public import proofs.«01_k».proof.Proof.Tile
public import Idealize.ShloMosaic.Lib.Transfers

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "iW" => (Memref.whole Cert.KernelIdeal.main_v1_scv : Memref Cert.KernelIdeal.sig Kind.scVector Space.hbm Cert.KernelIdeal.S512 EltTy.i32)
local notation "oW" => (Memref.whole Cert.KernelIdeal.main_v2_scv : Memref Cert.KernelIdeal.sig Kind.scVector Space.hbm Cert.KernelIdeal.S100352 EltTy.f32)
local notation "sI" => (Memref.whole Cert.KernelIdeal.cc1_scratch0 : Memref Cert.KernelIdeal.sig Kind.scVector Space.vmem Cert.KernelIdeal.S512 EltTy.i32)
local notation "sH" => (Memref.whole Cert.KernelIdeal.cc1_scratch1 : Memref Cert.KernelIdeal.sig Kind.scVector Space.vmem Cert.KernelIdeal.S3136 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The windows -/

def coordsV (c : Fin (grid1.bound 0)) (s : Fin (grid1.bound 1)) : grid1.Coords :=
  fun | 0 => c | 1 => s | ⟨_ + 2, h⟩ => absurd h (Nat.not_lt.2 (Nat.le_add_left _ _))

/-- The window of subcore `i` of SparseCore `c`, and the windows of SparseCore `c`. -/
abbrev tileSet (c : Fin 2) (i : Fin 16) : Finset S100352.Idx := winSet (coordsV c i)
def coreSet (c : Fin 2) : Finset S100352.Idx := Finset.univ.biUnion (tileSet c)

theorem mem_tileSet (c : Fin 2) (i : Fin 16) (j : S100352.Idx) : j ∈ tileSet c i ↔ (j 0).val / 3136 = 2 * i.val + c.val := by
  have hw : ∀ a : Fin 1, (win (coordsV c i)).size a = 3136 ∧ k1_off1 (coordsV c i) a = 6272 * i.val + 3136 * c.val := by
    intro a
    obtain rfl : a = (0 : Fin 1) := Subsingleton.elim (α := Fin 1) _ _
    exact ⟨rfl, by rw [k1_off1_eq]; rfl⟩
  have h0 : j ∈ tileSet c i ↔ ∀ a : Fin 1, k1_off1 (coordsV c i) a ≤ (j a).val ∧ (j a).val < k1_off1 (coordsV c i) a + (win (coordsV c i)).size a :=
    Rect.mem_set_unit
  rw [h0]
  have h1 := hw 0
  constructor
  · intro h
    have h2 := h 0
    rw [h1.1, h1.2] at h2
    omega
  · intro h a
    obtain rfl : a = (0 : Fin 1) := Subsingleton.elim (α := Fin 1) _ _
    rw [h1.1, h1.2]
    omega

theorem tiles_disjoint (c : Fin 2) : ∀ i ∈ (Finset.univ : Finset (Fin 16)), ∀ k ∈ (Finset.univ : Finset (Fin 16)), i ≠ k → Disjoint (tileSet c i) (tileSet c k) := by
  intro i _ k _ h
  refine Finset.disjoint_left.mpr fun j h1 h2 => h (Fin.ext ?_)
  have h1 := (mem_tileSet c i j).mp h1
  have h2 := (mem_tileSet c k j).mp h2
  omega

theorem mem_coreSet (c : Fin 2) (j : S100352.Idx) : j ∈ coreSet c ↔ (j 0).val / 3136 % 2 = c.val := by
  unfold coreSet
  simp only [Finset.mem_biUnion, Finset.mem_univ, true_and, mem_tileSet]
  have hj : (j 0).val < 100352 := (j 0).isLt
  constructor
  · rintro ⟨i, h⟩; omega
  · intro h; exact ⟨⟨(j 0).val / 3136 / 2, by omega⟩, by simp only; omega⟩

theorem cores_disjoint : ∀ c ∈ (Finset.univ : Finset (Fin 2)), ∀ k ∈ (Finset.univ : Finset (Fin 2)), c ≠ k → Disjoint (coreSet c) (coreSet k) := by
  intro i _ k _ h
  refine Finset.disjoint_left.mpr fun j h1 h2 => h (Fin.ext ?_)
  exact ((mem_coreSet i j).mp h1).symm.trans ((mem_coreSet k j).mp h2)

theorem cores_cover : (Finset.univ : Finset (Fin 2)).biUnion coreSet = Finset.univ := by
  ext j
  simp only [Finset.mem_biUnion, Finset.mem_univ, true_and, mem_coreSet, iff_true]
  exact ⟨⟨(j 0).val / 3136 % 2, Nat.mod_lt _ (by decide)⟩, rfl⟩

theorem hist_tiles (d : Dev nD) (c : Fin 2) (f : Buf (Elt F) (hLoc d)) :
    (hLoc d ↦[coreSet c]{fullShare} f : sProp 𝕄) = bigSep Finset.univ fun i : Fin 16 => hLoc d ↦[tileSet c i]{fullShare} f := by
  rw [← pointsTo_biUnion Finset.univ (ℓ := hLoc d) (tileSet c) (tiles_disjoint c)]; rfl

theorem hist_cores (d : Dev nD) (f : Buf (Elt F) (hLoc d)) :
    (hLoc d ↦{fullShare} f : sProp 𝕄) = bigSep Finset.univ fun c : Fin 2 => hLoc d ↦[coreSet c]{fullShare} f := by
  rw [← pointsTo_biUnion Finset.univ (ℓ := hLoc d) coreSet cores_disjoint, cores_cover]; try rfl

/-! ## What the call carries -/

variable (X : (d : Dev nD) → Buf (Elt F) (ixLoc d)) (g : (d : Dev nD) → Buf (Elt F) (hLoc d))

/-- A share of the indices and some of the histogram's bins. -/
abbrev lent (d : Dev nD) (q : PosShare TreeShare) (B : Finset S100352.Idx) (f : Buf (Elt F) (hLoc d)) : sProp 𝕄 :=
  iprop((ixLoc d ↦{q} X d) ∗ hLoc d ↦[B]{fullShare} f)

abbrev coreShare (c : Fin 2) : PosShare TreeShare := shareTok fullShare 2 c
abbrev tileShare (c : Fin 2) (i : Fin 16) : PosShare TreeShare := shareTok (coreShare c) 16 i

def P : (K (F := F)).Pay (nD := nD) (Val := Elt F) (Name := ℕ) (U := UU) where
  st := fun q d c => match q with | 0 => lent X d (coreShare c) (coreSet c) (g d)
  dn := fun q d c => match q with | 0 => lent X d (coreShare c) (coreSet c) (outOf (X d))
  go := fun q d c i => match q with | 0 => lent X d (tileShare c i) (tileSet c i) (g d)
  td := fun q d c i => match q with | 0 => lent X d (tileShare c i) (tileSet c i) (outOf (X d))
  x := fun _ _ => iprop(emp)

instance P_storable : (P X g).IsStorable where
  st q d c := match q with
    | 0 => (inferInstance : BI.Storable (upEmb : UEmb _ 𝕄) (lent X d (coreShare c) (coreSet c) (g d)))
  dn q d c := match q with
    | 0 => (inferInstance : BI.Storable (upEmb : UEmb _ 𝕄) (lent X d (coreShare c) (coreSet c) (outOf (X d))))
  go q d c i := match q with
    | 0 => (inferInstance : BI.Storable (upEmb : UEmb _ 𝕄) (lent X d (tileShare c i) (tileSet c i) (g d)))
  td q d c i := match q with
    | 0 => (inferInstance : BI.Storable (upEmb : UEmb _ 𝕄) (lent X d (tileShare c i) (tileSet c i) (outOf (X d))))

/-! ## The launch theorem's obligations -/

theorem defs₀_vector (c : Fin τ.nSC) (s : Fin τ.nSub) :
    defs₀ (F := F) (.scVector c s) 1 ()
      = SparseCore.onTile hcore1 hsub1 (fun c s => cc1__hist_body (coordsV c s) iW (Memref.isWhole_whole _) oW (Memref.isWhole_whole _)
          sI (Memref.isWhole_whole _) sH (Memref.isWhole_whole _) cc1_scratch2 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] cc1__hist_body in
set_option maxRecDepth 1024 in
theorem tileObl : (K (F := F)).TileObl (D (F := F)) 𝒱 (P X g) v₀ 0 := by
  intro d c i O W hO _ _
  simp only [show (P X g).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hb := tile_body d (coordsV ⟨_, hc.1⟩ ⟨_, hc.2⟩) facts (tileShare c i) (X d) (g d) O W hO
  have h1 : (P X g).go 0 d c i = lent X d (tileShare c i) (winSet (coordsV ⟨_, hc.1⟩ ⟨_, hc.2⟩)) (g d) := rfl
  have h2 : (P X g).td 0 d c i = lent X d (tileShare c i) (winSet (coordsV ⟨_, hc.1⟩ ⟨_, hc.2⟩)) (outOf (X d)) := rfl
  rw [h1, h2]
  clear h1 h2
  refine hb.trans ?_
  refine wp_mono frame _ _ fun _ => ?_
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem bigSep_tasks (Φ : Fin 16 → sProp 𝕄) :
    (bigSep Finset.univ fun i : Fin ((K (F := F)).nSub 0) => Φ i) = bigSep Finset.univ Φ := rfl

theorem vecSplit : (K (F := F)).VecSplit' (P X g) 0 := by
  intro d c
  show lent X d (coreShare c) (coreSet c) (g d) ⊢ |={Set.univ}=> iprop(
      (bigSep Finset.univ fun i : Fin 16 => lent X d (tileShare c i) (tileSet c i) (g d))
      ∗ ((bigSep Finset.univ fun i : Fin 16 => lent X d (tileShare c i) (tileSet c i) (outOf (X d)))
          -∗ lent X d (coreShare c) (coreSet c) (outOf (X d))))
  unfold lent
  rw [bigSep_sep', bigSep_sep', hist_tiles, hist_tiles]
  iintro ⟨Hi, Hh⟩
  ihave Hi := (pointsTo_toks (coreShare c) 16).1 $$ Hi
  icases Hi with ⟨Hd, Hi⟩
  imodintro
  isplitl [Hi Hh]; · isplitl [Hi] <;> iassumption
  iintro ⟨Hi, Hh⟩
  isplitl [Hi Hd]
  · iapply (pointsTo_toks (coreShare c) 16).2
    isplitl [Hd] <;> iassumption
  iexact Hh

end Cert.Proof.Pool

end
-- ==== Proof.Run.lean ====
/-
  The whole program's run, over any float values: @main enters the pooling region, reshapes the row numbers it found,
  calls the SparseCores for the histogram, cuts off the padding bins and reshapes. Every run ends, with the argument as
  it was, the two results at the values named here and every semaphore at zero.
-/
module

public import proofs.«01_k».proof.Proof.Segment
public import proofs.«01_k».proof.Proof.Deal

@[expose] public section

noncomputable section

namespace Cert.Proof.Pool

open Cert.KernelIdeal Cert.KernelIdeal.Gen

open Idealize.ShloMosaic
open Idealize.ShloMosaic.SparseCore (S V)
open Idealize.ShloMosaic.SparseCore.Cfg (HIx Pay ctx_levAts)
open Idealize.ShloMosaic.StableHlo (held wp_hlo_within)
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The values -/

variable (m : (ℓ : Loc nD τ sig) → Buf (Elt F) ℓ) (ρ : Dev nD → PrngReg)

/-- The argument; the row numbers as the SparseCores read them; the two results. -/
def argOf (d : Dev nD) : Vec F S100000x512 .f32 := m ((SparseCore.T d).loc main_arg0)
def ixVec (x : Vec F S100000x512 .f32) : Vec F S512 .i32 := shapeCast S512 (idxOf x) shapeCasts_S1x512_S512
def cutOf (h : Vec F S100352 .f32) : Vec F S100000 .f32 := extractStridedSlice S100000 ![0] h slices_S100352_S100000_0
def histOf (x : Vec F S100000x512 .f32) : Vec F S1x100000 .f32 :=
  shapeCast S1x100000 (cutOf (outOf (ixVec x))) shapeCasts_S100000_S1x100000

abbrev ixAt (d : Dev nD) : Buf (Elt F) (ixLoc d) := ixVec (argOf m d)
abbrev binsAt (d : Dev nD) : Buf (Elt F) (hLoc d) := m (hLoc d)
abbrev PP : (K (F := F)).Pay (nD := nD) (Val := Elt F) (Name := ℕ) (U := UU) := P (ixAt m) (binsAt m)

/-! ## The pipeline's share of the launch element -/

def EP : Emb UPipe (MT nD τ sig (HIx 1) (Elt F) ℕ UU ℕ) := (Emb.inl : Emb UPipe (UPipe × Counters)).trans embR
instance EP_landsIn : (EP : Emb UPipe 𝕄).LandsIn (upEmb : UEmb _ 𝕄) := by unfold EP; infer_instance

abbrev pcs := Pipeline.pin (pcfgs (F := F)) adm

def u₀ : UU := (initOf (K (F := F)).hsCells (K (F := F)).hsToks,
  (initOf (Pipeline.cells (nD := nD) (τ := τ) (pcs (F := F)) cellOf_inj) (Pipeline.launchToks (nD := nD) (τ := τ) (pcs (F := F)) cellOf_inj), 1))

/-- What the pooling region's cells start from, on device `d`. -/
def ghost (d : Dev nD) : sProp 𝕄 :=
  iprop(Pipeline.cellsGhost (pcs (F := F)) EP 0 d ∗ Pipeline.toksInit (pcs (F := F)) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave HR := (own_pair_emb embR _ _) $$ HR
  icases HR with ⟨HP, -⟩
  ihave HP := (Entails.of_eq (show (BI.own (((Emb.inl : Emb UPipe (UPipe × Counters)).trans embR)
      (initOf (Pipeline.cells (nD := nD) (τ := τ) (pcs (F := F)) cellOf_inj) (Pipeline.launchToks (nD := nD) (τ := τ) (pcs (F := F)) cellOf_inj))) : sProp 𝕄)
    = BI.own (EP (initOf (Pipeline.cells (nD := nD) (τ := τ) (pcs (F := F)) cellOf_inj) (Pipeline.launchToks (nD := nD) (τ := τ) (pcs (F := F)) cellOf_inj))) from rfl)) $$ HP
  imod (Pipeline.fund_ghost (pcs (F := F)) EP cellOf_inj) $$ HP with HP
  imodintro
  isplitl [HH]; · iexact HH
  isplitl [HP]
  · unfold ghost
    rw [bigSep_sep', ← bigSep_congr fun d _ => bigSep_univ_of_subsingleton (Φ := fun p : Fin 1 => Pipeline.cellsGhost (pcs (F := F)) EP p d) (0 : Fin 1),
      ← bigSep_congr fun d _ => bigSep_univ_of_subsingleton (Φ := fun p : Fin 1 => Pipeline.toksInit (pcs (F := F)) EP p d) (0 : Fin 1)]
    iexact HP
  rw [show (bigSep Finset.univ fun thr : Thread nD τ => bigSep Finset.univ fun q : Fin 1 => (PP m).x q thr : sProp 𝕄) = iprop(emp) from
    (bigSep_congr fun thr _ => bigSep_emp_const _).trans (bigSep_emp_const _)]
  iempintro

/-! ## The host operations -/

/-- A host operation that reads `a` and writes `b`. -/
theorem host_step (V₀ : Valuation τ sig (Elt F)) (d : Dev nD) (op : HloOp τ sig (Elt F)) (a b : Ref sig .tc)
    (hab : (Proc.devRef .tc a : DevRef τ sig) ≠ (Proc.devRef .tc b : DevRef τ sig)) (hbufs : op.bufs = {(Proc.devRef .tc a : DevRef τ sig), (Proc.devRef .tc b : DevRef τ sig)}) (hwr : op.writes = {(Proc.devRef .tc b : DevRef τ sig)}) (hf : op.fresh = ∅)
    (f : Buf (Elt F) ((SparseCore.T d).loc a)) (g r : Buf (Elt F) ((SparseCore.T d).loc b))
    (hr : ∀ W : Valuation τ sig (Elt F), W (Proc.devRef .tc a : DevRef τ sig) = f → op.result W (Proc.devRef .tc b : DevRef τ sig) = r) (Φ : PUnit → sProp 𝕄) :
    iprop(boundary (SparseCore.T d) ∗ ((SparseCore.T d).loc a ↦{fullShare} f) ∗ ((SparseCore.T d).loc b ↦{fullShare} g)
        ∗ ((boundary (SparseCore.T d) ∗ ((SparseCore.T d).loc a ↦{fullShare} f) ∗ (SparseCore.T d).loc b ↦{fullShare} r) -∗ Φ ⟨⟩))
      ⊢ wp frame (wpE ((K (F := F)).defs (D (F := F))) 𝒱 (SparseCore.T d) none) Set.univ (hlo rfl op fun _ => .ret ⟨⟩) Φ := by
  have hS : ∀ W : Valuation τ sig (Elt F), (held (SparseCore.T d) {(Proc.devRef .tc a : DevRef τ sig), (Proc.devRef .tc b : DevRef τ sig)} W : sProp 𝕄)
      = iprop(((SparseCore.T d).loc a ↦{fullShare} W (Proc.devRef .tc a : DevRef τ sig)) ∗ (SparseCore.T d).loc b ↦{fullShare} W (Proc.devRef .tc b : DevRef τ sig)) := by
    intro W
    unfold held
    rw [SparseCore.bigSep_insert' (by simpa using hab), bigSep_singleton]
  have hVa : (Function.update (Function.update V₀ (Proc.devRef .tc a : DevRef τ sig) f) (Proc.devRef .tc b : DevRef τ sig) g) (Proc.devRef .tc a : DevRef τ sig) = f := by
    rw [Function.update_of_ne hab, Function.update_self]
  have hVb : (Function.update (Function.update V₀ (Proc.devRef .tc a : DevRef τ sig) f) (Proc.devRef .tc b : DevRef τ sig) g) (Proc.devRef .tc b : DevRef τ sig) = g := Function.update_self ..
  iintro ⟨Hb, Ha, Hd, Hk⟩
  iapply (wp_hlo_within 𝒱 (SparseCore.T d) none Set.univ (op := op) (S := {(Proc.devRef .tc a : DevRef τ sig), (Proc.devRef .tc b : DevRef τ sig)}) (le_of_eq hbufs)
    (V := Function.update (Function.update V₀ (Proc.devRef .tc a : DevRef τ sig) f) (Proc.devRef .tc b : DevRef τ sig) g) hf) $$ [Hb Ha Hd]
  · isplitl [Hb]; · iexact Hb
    rw [hS, hVa, hVb]
    isplitl [Ha] <;> iassumption
  rw [hS, hr _ hVa, op.result_of_not_mem _ (by rw [hwr]; simpa using hab), hVa]
  iintro ⟨Hb, Ha, Hd⟩
  rw [wp_ret]; imodintro
  iapply Hk
  isplitl [Hb]; · iexact Hb
  isplitl [Ha] <;> iassumption

/-! ## The buffers of the TensorCore, one by one -/

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_v0_0 ↦{fullShare} W main_v0_0)
      ∗ ((SparseCore.T d).loc main_v0_1 ↦{fullShare} W main_v0_1) ∗ ((SparseCore.T d).loc main_v1 ↦{fullShare} W main_v1) ∗ ((SparseCore.T d).loc main_v2 ↦{fullShare} W main_v2)
      ∗ ((SparseCore.T d).loc main_v3 ↦{fullShare} W main_v3) ∗ (SparseCore.T d).loc main_v4 ↦{fullShare} W main_v4) := by
  unfold unscopedBufs
  rw [show (Finset.univ.filter fun b : Ref sig .tc => ¬ b.isScoped) = {main_arg0, main_v0_0, main_v0_1, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

abbrev VV (c : Dev nD) : (b : Ref sig .tc) → Buf (Elt F) ((c.tc : Thread nD τ).loc b) := fun b => m ((SparseCore.T c).loc b)

theorem pooled_eq (d : Dev nD) :
    (unscopedBufs d (pooled (VV m) d) : sProp 𝕄) = iprop(((SparseCore.T d).loc main_arg0 ↦{fullShare} m ((SparseCore.T d).loc main_arg0)) ∗ ((SparseCore.T d).loc main_v0_0 ↦{fullShare} maxOf (argOf m d))
      ∗ ((SparseCore.T d).loc main_v0_1 ↦{fullShare} idxOf (argOf m d)) ∗ ((SparseCore.T d).loc main_v1 ↦{fullShare} m ((SparseCore.T d).loc main_v1)) ∗ ((SparseCore.T d).loc main_v2 ↦{fullShare} m ((SparseCore.T d).loc main_v2))
      ∗ ((SparseCore.T d).loc main_v3 ↦{fullShare} m ((SparseCore.T d).loc main_v3)) ∗ (SparseCore.T d).loc main_v4 ↦{fullShare} m ((SparseCore.T d).loc main_v4)) := by
  rw [unscopedBufs_eq, pooled_max, pooled_idx, pooled_ne _ _ main_arg0 (by decide) (by decide), pooled_ne _ _ main_v1 (by decide) (by decide),
    pooled_ne _ _ main_v2 (by decide) (by decide), pooled_ne _ _ main_v3 (by decide) (by decide), pooled_ne _ _ main_v4 (by decide) (by decide)]
  rfl

theorem st_eq (d : Dev nD) : (bigSep Finset.univ fun c : Fin ((K (F := F)).nCore 0) => (PP m).st 0 d c)
    = iprop((bigSep Finset.univ fun c : Fin 2 => ixLoc d ↦{coreShare c} ixAt m d) ∗ hLoc d ↦{fullShare} binsAt m d) := by
  rw [show (bigSep Finset.univ fun c : Fin ((K (F := F)).nCore 0) => (PP m).st 0 d c)
    = bigSep Finset.univ fun c : Fin 2 => lent (ixAt m) d (coreShare c) (coreSet c) (binsAt m d) from rfl, hist_cores d (binsAt m d)]
  unfold lent
  rw [bigSep_sep']
theorem dn_eq (d : Dev nD) : (bigSep Finset.univ fun c : Fin ((K (F := F)).nCore 0) => (PP m).dn 0 d c)
    = iprop((bigSep Finset.univ fun c : Fin 2 => ixLoc d ↦{coreShare c} ixAt m d) ∗ hLoc d ↦{fullShare} outOf (ixAt m d)) := by
  rw [show (bigSep Finset.univ fun c : Fin ((K (F := F)).nCore 0) => (PP m).dn 0 d c)
    = bigSep Finset.univ fun c : Fin 2 => lent (ixAt m) d (coreShare c) (coreSet c) (outOf (ixAt m d)) from rfl, hist_cores d (outOf (ixAt m d))]
  unfold lent
  rw [bigSep_sep']

/-! ## @main -/

/-- @main's three host operations. -/
abbrev opRow : HloOp τ sig (Elt F) := StableHlo.reshape main_v0_1 main_v1 rfl shapeCasts_S1x512_S512
abbrev opCut : HloOp τ sig (Elt F) :=
  StableHlo.unary main_v2 main_v3 ((extractStridedSlice S100000 ![0] · slices_S100352_S100000_0) : Vec F S100352 .f32 → Vec F S100000 .f32)
abbrev opOut : HloOp τ sig (Elt F) := StableHlo.reshape main_v3 main_v4 rfl shapeCasts_S100000_S1x100000

/-- What @main leaves: the argument, and the two results. -/
abbrev FIN (d : Dev nD) : sProp 𝕄 :=
  iprop(((SparseCore.T d).loc main_arg0 ↦{fullShare} m ((SparseCore.T d).loc main_arg0)) ∗ ((SparseCore.T d).loc main_v0_0 ↦{fullShare} maxOf (argOf m d))
    ∗ (SparseCore.T d).loc main_v4 ↦{fullShare} histOf (argOf m d))

/-- The region's call, in the pipeline's own labels. -/
def callRegion : Prog (TpuEff nD τ sig (Elt F) (ΛP (F := F)) .tc) PUnit := Prog.lift (.customCall (Pipeline.entry 0) ())
theorem liftProg_callRegion : SparseCore.liftProg (Q := 1) (callRegion (F := F)) = Prog.lift (.customCall (SparseCore.inner (Pipeline.entry 0)) ()) := rfl

/-- The region's call, as @main makes it. -/
theorem enter [∀ e, Nonempty (Elt F e)] (d : Dev nD) (Φ : PUnit → sProp 𝕄) :
    iprop(((boundary (SparseCore.T d) ∗ unscopedBufs d (pooled (VV m) d) ∗ owing d) -∗ Φ ⟨⟩) ∗ boundary (SparseCore.T d) ∗ (unscopedBufs d (VV m d) ∗ owing d)
        ∗ levAts (K (F := F)).L (K (F := F)).lev ∗ ghost d)
      ⊢ wp frame (wpE (D (F := F)) 𝒱 (SparseCore.T d) none) Set.univ callRegion Φ := by
  have hr := Pipeline.RegionSeg.wp (pcfgs (F := F)) adm (pdats (VV m)) none cellOf_inj EP defs₀ 𝒱₀ (K (F := F)).L (K (F := F)).lev (reg (VV m)) d none
    (hv := by simp) (fun _ => .ret ⟨⟩) Φ
  unfold callRegion Prog.lift
  refine BIBase.Entails.trans ?_ hr
  rw [show (reg (VV m)).pre d = iprop(unscopedBufs d (VV m d) ∗ owing d) from rfl, show (reg (VV m)).post d = iprop(unscopedBufs d (pooled (VV m) d) ∗ owing d) from rfl]
  unfold ghost
  iintro ⟨Hk, Hb, Hpre, Hlev, Hg, Ht⟩
  isplitl [Hk]
  · iintro ⟨Hb, Hpost⟩
    rw [wp_ret]; imodintro
    iapply Hk
    isplitl [Hb] <;> iassumption
  isplitl [Hb]; · iexact Hb
  isplitl [Hpre]; · iexact Hpre
  isplitl [Hlev]; · iexact Hlev
  isplitl [Hg]; · iexact Hg
  iexact Ht

theorem enter_main [∀ e, Nonempty (Elt F e)] (d : Dev nD) (Φ : PUnit → sProp 𝕄) :
    iprop(((boundary (SparseCore.T d) ∗ unscopedBufs d (pooled (VV m) d) ∗ owing d) -∗ Φ ⟨⟩) ∗ boundary (SparseCore.T d) ∗ (unscopedBufs d (VV m d) ∗ owing d)
        ∗ levAts (K (F := F)).L (K (F := F)).lev ∗ ghost d)
      ⊢ wp frame (wpE ((K (F := F)).defs (D (F := F))) 𝒱 (SparseCore.T d) none) Set.univ
          (Prog.lift (.customCall (SparseCore.inner (Pipeline.entry 0)) ())) Φ := by
  have hl := (K (F := F)).wp_liftProg (D (F := F)) 𝒱 (SparseCore.T d) Set.univ none callRegion Φ
  rw [liftProg_callRegion] at hl
  exact (enter m d Φ).trans hl

/-- What @main owes before its call, lent to the region. -/
theorem lend_owing (d : Dev nD) : ((K (F := F)).tcSt EH d 0 : sProp 𝕄) ⊢ iprop(owing (F := F) d ∗ (owing (F := F) d -∗ (K (F := F)).tcSt EH d 0)) := by
  unfold SparseCore.Cfg.tcSt owing
  iintro ⟨⟨%W, %hW, Ho⟩, Hr⟩
  isplitl [Ho]
  · iexists W
    isplitr
    · ipureintro
      intro p hp
      have := hW p hp
      rcases h : p.2 with _ | q
      · rfl
      · rw [h] at this
        exact absurd ((K (F := F)).lev_some_pos (SparseCore.T d, p.1) q) (Nat.not_lt.mpr this)
    · iexact Ho
  iintro ⟨%W', %hW', Ho⟩
  isplitl [Ho]
  · iexists W'
    isplitr
    · ipureintro
      intro p hp
      rw [hW' p hp, SparseCore.Cfg.lev_none]
      exact Nat.zero_le _
    · iexact Ho
  iexact Hr

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, Hg⟩
  ihave Ho := (lend_owing d) $$ Hst
  icases Ho with ⟨Ho, Hback⟩
  -- the pooling region
  iapply (enter_main m d) $$ [Hctx Hback Hb Hub Hts Ho Hg]
  isplitl [Hback Hts]
  rotate_left 1
  · isplitl [Hb]; · iexact Hb
    isplitl [Hub Ho]
    · isplitl [Hub]; · iexact Hub
      iexact Ho
    isplitr; · iapply (ctx_levAts κ); iexact Hctx
    iexact Hg
  iintro ⟨Hb, Hub, Ho⟩
  ihave Hst := Hback $$ Ho
  ihave Hub := (Entails.of_eq (pooled_eq m d)) $$ Hub
  icases Hub with ⟨Hx, Hmax, Hidx, H1, H2, H3, H4⟩
  -- the row numbers, as a vector
  iapply (host_step (fun b => m (d, b)) d opRow main_v0_1 main_v1 (by decide) rfl rfl rfl
    (idxOf (argOf m d)) (m ((SparseCore.T d).loc main_v1)) (ixAt m d) (fun W hW => by
      rw [StableHlo.reshape_result, hW]; rfl) _) $$ [-]
  isplitl [Hb]; · iexact Hb
  isplitl [Hidx]; · iexact Hidx
  isplitl [H1]; · iexact H1
  iintro ⟨Hb, -, H1⟩
  -- the histogram
  ihave H1 := (pointsTo_toks fullShare 2).1 $$ H1
  icases H1 with ⟨-, H1⟩
  iapply ((K (F := F)).wp_run (D (F := F)) 𝒱 (EH := EH) (P := PP m) κ d 0) $$ [-]
  isplitr; · iexact Hctx
  isplitl [Hst]; · iexact Hst
  isplitl [H1 H2]
  · rw [st_eq]
    isplitl [H1]; · iexact H1
    iexact H2
  iintro ⟨Hst, Hdn⟩
  ihave Hdn := (Entails.of_eq (dn_eq m d)) $$ Hdn
  icases Hdn with ⟨-, H2⟩
  -- the padding bins cut off
  iapply (host_step (fun b => m (d, b)) d opCut main_v2 main_v3 (by decide) rfl rfl rfl
    (outOf (ixAt m d)) (m ((SparseCore.T d).loc main_v3)) (cutOf (outOf (ixAt m d))) (fun W hW => by
      rw [StableHlo.unary_result, hW]; rfl) _) $$ [-]
  isplitl [Hb]; · iexact Hb
  isplitl [H2]; · iexact H2
  isplitl [H3]; · iexact H3
  iintro ⟨Hb, -, H3⟩
  -- the row
  iapply (host_step (fun b => m (d, b)) d opOut main_v3 main_v4 (by decide) rfl rfl rfl
    (cutOf (outOf (ixAt m d))) (m ((SparseCore.T d).loc main_v4)) (histOf (argOf m d)) (fun W hW => by
      rw [StableHlo.reshape_result, hW]; rfl) _) $$ [-]
  isplitl [Hb]; · iexact Hb
  isplitl [H3]; · iexact H3
  isplitl [H4]; · iexact H4
  iintro ⟨Hb, -, H4⟩
  imodintro
  isplitl [Hst]; · iexact Hst
  isplitl [Hx Hmax H4]
  · isplitl [Hx]; · iexact Hx
    isplitl [Hmax] <;> iassumption
  isplitl [Hb] <;> iassumption

/-! ## The run -/

def fq (d : Dev nD) (s' : Phys nD τ sig (Elt F)) : Prop :=
  s'.mem.mem ((SparseCore.T d).loc main_arg0) = m ((SparseCore.T d).loc main_arg0) ∧ s'.mem.mem ((SparseCore.T d).loc main_v0_0) = maxOf (argOf m d)
    ∧ s'.mem.mem ((SparseCore.T d).loc main_v4) = histOf (argOf m d)

theorem hfin (d : Dev nD) (s' : Phys nD τ sig (Elt F)) : iprop(FIN m d ∗ SI s') ⊢ (⌜fq m d s'⌝ : sProp 𝕄) := by
  iintro ⟨⟨Hx, Hmax, H4⟩, HSI⟩
  ihave H := (persistent_entails_right (SI_pointsTo_agree (st := s') (ℓ := (SparseCore.T d).loc main_arg0) (I := Finset.univ) (q := fullShare) (f := m ((SparseCore.T d).loc main_arg0)))) $$ [HSI Hx]
  · isplitl [HSI] <;> iassumption
  icases H with ⟨%hx, ⟨HSI, -⟩⟩
  ihave H := (persistent_entails_right (SI_pointsTo_agree (st := s') (ℓ := (SparseCore.T d).loc main_v0_0) (I := Finset.univ) (q := fullShare) (f := maxOf (argOf m d)))) $$ [HSI Hmax]
  · isplitl [HSI] <;> iassumption
  icases H with ⟨%hm, ⟨HSI, -⟩⟩
  ihave H := (SI_pointsTo_agree (st := s') (ℓ := (SparseCore.T d).loc main_v4) (I := Finset.univ) (q := fullShare) (f := histOf (argOf m d))) $$ [HSI H4]
  · isplitl [HSI] <;> iassumption
  icases H with %h4
  ipureintro
  exact ⟨funext fun i => hx i (Finset.mem_univ i), funext fun i => hm i (Finset.mem_univ i), funext fun i => h4 i (Finset.mem_univ i)⟩

/-- What every run of the program ends in. -/
def QC : PUnit × MemSt nD τ sig (Elt F) → Prop := fun r => (∀ d : Dev nD,
  r.2.mem ((SparseCore.T d).loc main_arg0) = m ((SparseCore.T d).loc main_arg0) ∧ r.2.mem ((SparseCore.T d).loc main_v0_0) = maxOf (argOf m d)
    ∧ r.2.mem ((SparseCore.T d).loc main_v4) = histOf (argOf m d)) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (ixAt m) (binsAt m))
    (fun q _ => match q with | 0 => SparseCore.Cfg.VecSplit.of_plain (vecSplit (ixAt m) (binsAt m)))
    m ρ main ghost (FIN m) (u₀ (F := F)) (sep_elim_left.trans (hu₀ m)) (hmain m ρ) (fq m) (hfin m) (QC m) (fun _ h hz => ⟨h, hz⟩)

end Cert.Proof.Pool

end
-- ==== Proof.Reference.lean ====
/-
  The reference: a straight line of host operations, over any float values. Its run, its two results as plain functions of
  the argument, and the claim that it ends with the argument unchanged.
-/
module

public import proofs.«01_k».proof.Defs
public import proofs.«01_k».proof.Proof.Gen.ReferenceIdeal
public import Idealize.ShloMosaic.Lib.StableHlo.Run

@[expose] public section

noncomputable section

namespace Cert.Proof.Ref

open Cert.ReferenceIdeal Cert.ReferenceIdeal.Gen

open Idealize.ShloMosaic Idealize.ShloMosaic.TcCoe Idealize.ShloMosaic.StableHlo Idealize.SL.Sem

variable {F : FTy → Type} [FloatOps F]

/-! ## The results -/

/-- Every column's maximum, and the row the arg-max names. -/
def maxR (x : Vec F S100000x512 .f32) : Vec F S512 .f32 :=
  Host.reduce FloatOps.maximumf x (constant S_ .f32 0xFF800000#32) reducesTo_S100000x512_S512_d0 h_S_
def argR (x : Vec F S100000x512 .f32) : IVec S512 32 := fun j =>
  (Host.argReduce reducer_argmax_f32_i32 x (iotaInDim S100000x512 32 0) (constant S_ .f32 0xFF800000#32) (constantI S_ 32 0#32)
    reducesTo_S100000x512_S512_d0 h_S_ j).2

/-- A word over every entry of a shape. -/
abbrev over512 (v : BitVec 32) : IVec S512 32 := broadcastInDim S512 ![] bcast_S_S512 (constantI S_ 32 v)

/-- The bin of a row number: at least zero, then counted from the end if negative. -/
def clipR (i : IVec S512 32) : IVec S512 32 := maxsi (over512 0#32) i
def wrapR (i : IVec S512 32) : IVec S512 32 := select (cmpi .slt i (over512 0#32)) (addi i (over512 100000#32)) i

/-- How many columns fall in each bin, and each count's share of all of them. -/
def countR (i : IVec S512 32) : IVec S100000 32 :=
  Host.scatter scatter_S100000_S512x1_S512_n_0_0_1 IntOp.addi (broadcastInDim S100000 ![] bcast_S_S100000 (constantI S_ 32 0#32))
    (broadcastInDim S512x1 ![0] bcast_S512_S512x1_0 i) (over512 1#32)
def shareR (n : IVec S100000 32) : Vec F S100000 .f32 :=
  Host.divf (sitofp .f32 n : Vec F S100000 .f32) (broadcastInDim S100000 ![] bcast_S_S100000
    (Host.reduceAdd (sitofp .f32 n : Vec F S100000 .f32) (constant S_ .f32 0x00000000#32 : Vec F S_ .f32) reducesTo_S100000_S_d0 h_S_))

def histR (x : Vec F S100000x512 .f32) : Vec F S1x100000 .f32 :=
  shapeCast S1x100000 (shareR (F := F) (countR (wrapR (clipR (argR x))))) shapeCasts_S100000_S1x100000
def rowR (x : Vec F S100000x512 .f32) : Vec F S1x512 .f32 := shapeCast S1x512 (maxR x) shapeCasts_S512_S1x512

/-! ## The run -/

/-- @main's operations in order, the arg-max's five and the clip's three among them. -/
abbrev ops : List (HloOp τ sig (Elt F)) :=
  [ nullary main_cst (constant S_ .f32 0xFF800000#32),
    binary main_arg0 main_cst main_v0 ((fun x v => Host.reduce FloatOps.maximumf x v reducesTo_S100000x512_S512_d0 h_S_) : (⟨S100000x512, .f32⟩ : BufTy).Contents (Elt F) → (⟨S_, .f32⟩ : BufTy).Contents (Elt F) → (⟨S512, .f32⟩ : BufTy).Contents (Elt F)),
    TRef.nullary main_call0.v0 (iotaInDim S100000x512 32 0),
    TRef.nullary main_call0.cst (constant S_ .f32 0xFF800000#32),
    TRef.nullary main_call0.c (constantI S_ 32 0#32),
    TRef.quaternary (.of main_arg0) main_call0.v0 main_call0.cst main_call0.c main_call0.v1_0 (fun x y u v j => (Host.argReduce reducer_argmax_f32_i32 x y u v reducesTo_S100000x512_S512_d0 h_S_ j).1),
    TRef.quaternary (.of main_arg0) main_call0.v0 main_call0.cst main_call0.c main_call0.v1_1 (fun x y u v j => (Host.argReduce reducer_argmax_f32_i32 x y u v reducesTo_S100000x512_S512_d0 h_S_ j).2),
    nullary main_c (constantI S_ 32 0#32),
    unary main_c main_v2 (broadcastInDim S100000 ![] bcast_S_S100000 : (⟨S_, .i32⟩ : BufTy).Contents (Elt F) → (⟨S100000, .i32⟩ : BufTy).Contents (Elt F)),
    nullary main_c_0 (constantI S_ 32 0#32),
    TRef.unary (.of main_c_0) main_call1.v0 id,
    TRef.unary main_call1.v0 main_call1.v1 (broadcastInDim S512 ![] bcast_S_S512),
    TRef.binary main_call1.v1 (.of main_v1) main_call1.v2 maxsi,
    nullary main_c_1 (constantI S_ 32 0#32),
    unary main_c_1 main_v4 (broadcastInDim S512 ![] bcast_S_S512 : (⟨S_, .i32⟩ : BufTy).Contents (Elt F) → (⟨S512, .i32⟩ : BufTy).Contents (Elt F)),
    binary main_v3 main_v4 main_v5 (cmpi .slt : (⟨S512, .i32⟩ : BufTy).Contents (Elt F) → (⟨S512, .i32⟩ : BufTy).Contents (Elt F) → (⟨S512, .i1⟩ : BufTy).Contents (Elt F)),
    nullary main_c_2 (constantI S_ 32 100000#32),
    unary main_c_2 main_v6 (broadcastInDim S512 ![] bcast_S_S512 : (⟨S_, .i32⟩ : BufTy).Contents (Elt F) → (⟨S512, .i32⟩ : BufTy).Contents (Elt F)),
    binary main_v3 main_v6 main_v7 (addi : (⟨S512, .i32⟩ : BufTy).Contents (Elt F) → (⟨S512, .i32⟩ : BufTy).Contents (Elt F) → (⟨S512, .i32⟩ : BufTy).Contents (Elt F)),
    ternary main_v5 main_v7 main_v3 main_v8 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v8 main_v9 (broadcastInDim S512x1 ![0] bcast_S512_S512x1_0 : (⟨S512, .i32⟩ : BufTy).Contents (Elt F) → (⟨S512x1, .i32⟩ : BufTy).Contents (Elt F)),
    nullary main_c_3 (constantI S_ 32 1#32),
    unary main_c_3 main_v10 (broadcastInDim S512 ![] bcast_S_S512 : (⟨S_, .i32⟩ : BufTy).Contents (Elt F) → (⟨S512, .i32⟩ : BufTy).Contents (Elt F)),
    ternary main_v2 main_v9 main_v10 main_v11 ((fun x i u => Host.scatter scatter_S100000_S512x1_S512_n_0_0_1 IntOp.addi x i u) : (⟨S100000, .i32⟩ : BufTy).Contents (Elt F) → (⟨S512x1, .i32⟩ : BufTy).Contents (Elt F) → (⟨S512, .i32⟩ : BufTy).Contents (Elt F) → (⟨S100000, .i32⟩ : BufTy).Contents (Elt F)),
    unary main_v11 main_v12 (sitofp .f32 : (⟨S100000, .i32⟩ : BufTy).Contents (Elt F) → (⟨S100000, .f32⟩ : BufTy).Contents (Elt F)),
    nullary main_cst_4 (constant S_ .f32 0x00000000#32),
    binary main_v12 main_cst_4 main_v13 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    unary main_v13 main_v14 (broadcastInDim S100000 ![] bcast_S_S100000 : (⟨S_, .f32⟩ : BufTy).Contents (Elt F) → (⟨S100000, .f32⟩ : BufTy).Contents (Elt F)),
    binary main_v12 main_v14 main_v15 (Host.divf : (⟨S100000, .f32⟩ : BufTy).Contents (Elt F) → (⟨S100000, .f32⟩ : BufTy).Contents (Elt F) → (⟨S100000, .f32⟩ : BufTy).Contents (Elt F)),
    reshape main_v15 main_v16 (rfl : (.f32 : EltTy) = .f32) shapeCasts_S100000_S1x100000,
    reshape main_v0 main_v17 (rfl : (.f32 : EltTy) = .f32) shapeCasts_S512_S1x512 ]

theorem main_eq (c : Dev nD) : main (F := F) c = seq ops := by
  simp only [main, fn_argmax.body, fn_clip.body, seq, bind_assoc, pure_bind]

attribute [local irreducible] Host.scatter Host.argReduce Host.reduceAdd Host.divf sitofp broadcastInDim shapeCast select maxsi cmpi addi in
theorem hist_eq (V : Valuation τ sig (Elt F)) :
    after ops V (main_v16 : DevRef τ sig) = histR (V (main_arg0 : DevRef τ sig)) := by
  after_results_simp
  unfold histR shareR countR wrapR clipR argR
  simp only [TRef.ofBuf_toBuf, id]
  rfl

theorem row_eq (V : Valuation τ sig (Elt F)) :
    after ops V (main_v17 : DevRef τ sig) = rowR (V (main_arg0 : DevRef τ sig)) := by
  after_results_simp
  rfl

theorem arg_eq (V : Valuation τ sig (Elt F)) :
    after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., nullary_bufs_sub .., nullary_bufs_sub .., quaternary_bufs_sub ..,
    quaternary_bufs_sub .., nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub .., ternary_bufs_sub ..,
    unary_bufs_sub .., nullary_bufs_sub .., unary_bufs_sub .., ternary_bufs_sub .., unary_bufs_sub .., nullary_bufs_sub .., binary_bufs_sub ..,
    unary_bufs_sub .., binary_bufs_sub .., reshape_bufs_sub .., reshape_bufs_sub ..⟩

/-- Every run of the reference ends with each buffer at the operations' fold over what was there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.FirstMax.lean ====
/-
  The first maximum of a sequence of extended reals: what it is, that there is one, how the first maxima of two stretches
  laid end to end combine, and the folds that compute it: a maximum over all entries, a minimum of words, and the host's
  arg-max fold.
-/
module

public import Idealize.ShloMosaic.PureOps.Ideal.Laws

@[expose] public section

noncomputable section

namespace Cert.Proof.First

open Idealize.ShloMosaic

/-- Among the first `n` entries of `X` the largest is `m`, and entry `i` is the first to equal it. -/
structure IsFirst (X : ℕ → EReal) (n : ℕ) (m : EReal) (i : ℕ) : Prop where
  lt : i < n
  at_ : X i = m
  le : ∀ r < n, X r ≤ m
  before : ∀ r < i, X r ≠ m

namespace IsFirst

variable {X : ℕ → EReal} {n : ℕ} {m m' : EReal} {i i' : ℕ}

theorem unique (h : IsFirst X n m i) (h' : IsFirst X n m' i') : m = m' ∧ i = i' := by
  have hm : m = m' := le_antisymm (h.at_ ▸ h'.le i h.lt) (h'.at_ ▸ h.le i' h'.lt)
  subst hm
  refine ⟨rfl, le_antisymm (not_lt.mp fun hc => h.before i' hc h'.at_) (not_lt.mp fun hc => h'.before i hc h.at_)⟩

/-- A later stretch takes over exactly when its maximum is strictly larger. -/
theorem append {k : ℕ} (h : IsFirst X n m i) (h' : IsFirst (fun r => X (n + r)) k m' i') :
    IsFirst X (n + k) (if m < m' then m' else m) (if m < m' then n + i' else i) := by
  by_cases hm : m < m'
  · rw [if_pos hm, if_pos hm]
    refine ⟨by have := h'.lt; omega, h'.at_, fun r hr => ?_, fun r hr => ?_⟩
    · by_cases hn : r < n
      · exact (h.le r hn).trans hm.le
      · have := h'.le (r - n) (by omega)
        rwa [Nat.add_sub_cancel' (not_lt.mp hn)] at this
    · by_cases hn : r < n
      · exact ((h.le r hn).trans_lt hm).ne
      · have := h'.before (r - n) (by omega)
        rwa [Nat.add_sub_cancel' (not_lt.mp hn)] at this
  · rw [if_neg hm, if_neg hm]
    refine ⟨by have := h.lt; omega, h.at_, fun r hr => ?_, h.before⟩
    by_cases hn : r < n
    · exact h.le r hn
    · have := h'.le (r - n) (by omega)
      rw [Nat.add_sub_cancel' (not_lt.mp hn)] at this
      exact this.trans (not_lt.mp hm)

/-- A value that bounds every entry and is one of them has a first place. -/
theorem exists_of_max (hle : ∀ r < n, X r ≤ m) (hex : ∃ r < n, X r = m) : ∃ i, IsFirst X n m i := by
  classical
  have hp := Nat.find_spec hex
  exact ⟨Nat.find hex, hp.1, hp.2, hle, fun r hr hx => Nat.find_min hex hr ⟨hr.trans hp.1, hx⟩⟩

end IsFirst

/-! ## Folds over a finite set -/

/-- The maximum over a set that is not empty, from `⊥`, bounds every entry and is one of them. -/
theorem fold_max_spec {ι : Type} (s : Finset ι) (hs : s.Nonempty) (f : ι → EReal) :
    (∀ a ∈ s, f a ≤ s.fold max ⊥ f) ∧ ∃ a ∈ s, f a = s.fold max ⊥ f := by
  have he : s.fold max ⊥ f = s.sup f := rfl
  rw [he]
  exact ⟨fun a ha => Finset.le_sup ha, let ⟨a, ha, h⟩ := Finset.exists_mem_eq_sup s hs f; ⟨a, ha, h.symm⟩⟩

/-- The signed minimum of two words is one of them and at most either. -/
theorem minsi_spec (a b : BitVec 32) :
    (IntOp.minsi a b = a ∨ IntOp.minsi a b = b) ∧ (IntOp.minsi a b).toInt ≤ a.toInt ∧ (IntOp.minsi a b).toInt ≤ b.toInt := by
  unfold IntOp.minsi
  simp only [BitVec.slt, decide_eq_true_eq]
  split_ifs <;> simp <;> omega

/-- The signed minimum over a set from a word `z` is at most every entry, and is `z` or an entry. -/
theorem fold_minsi_spec {ι : Type} (s : Finset ι) (z : BitVec 32) (f : ι → BitVec 32) :
    (∀ a ∈ s, (s.fold IntOp.minsi z f).toInt ≤ (f a).toInt) ∧ (s.fold IntOp.minsi z f = z ∨ ∃ a ∈ s, s.fold IntOp.minsi z f = f a) := by
  classical
  induction s using Finset.induction_on with
  | empty => exact ⟨nofun, .inl rfl⟩
  | insert a s ha ih =>
    rw [Finset.fold_insert ha]
    obtain ⟨hor, h1, h2⟩ := minsi_spec (f a) (s.fold IntOp.minsi z f)
    refine ⟨fun b hb => ?_, ?_⟩
    · rcases Finset.mem_insert.mp hb with rfl | hb
      · exact h1
      · exact h2.trans (ih.1 b hb)
    · rcases hor with h | h
      · exact .inr ⟨a, Finset.mem_insert_self a s, h⟩
      · rw [h]
        exact ih.2.imp id fun ⟨b, hb, e⟩ => ⟨b, Finset.mem_insert_of_mem hb, e⟩

/-! ## The arg-max fold -/

/-- `q` is at least as good as `p`: larger, or as large and not later. -/
def Beats (q p : EReal × BitVec 32) : Prop := p.1 < q.1 ∨ (q.1 = p.1 ∧ q.2.toInt ≤ p.2.toInt)

theorem Beats.refl (p : EReal × BitVec 32) : Beats p p := .inr ⟨rfl, le_rfl⟩
theorem Beats.trans {a b c : EReal × BitVec 32} (h : Beats a b) (h' : Beats b c) : Beats a c := by
  rcases h with h | ⟨h, h1⟩ <;> rcases h' with h' | ⟨h', h1'⟩
  · exact .inl (h'.trans h)
  · exact .inl (h' ▸ h)
  · exact .inl (h ▸ h')
  · exact .inr ⟨h.trans h', h1.trans h1'⟩

/-- A fold of a choice of the better of two ends with the best. -/
theorem foldl_best (f : EReal × BitVec 32 → EReal × BitVec 32 → EReal × BitVec 32)
    (hf : ∀ a b, (f a b = a ∨ f a b = b) ∧ Beats (f a b) a ∧ Beats (f a b) b) (l : List (EReal × BitVec 32)) (z : EReal × BitVec 32) :
    (l.foldl f z = z ∨ l.foldl f z ∈ l) ∧ Beats (l.foldl f z) z ∧ ∀ p ∈ l, Beats (l.foldl f z) p := by
  induction l generalizing z with
  | nil => exact ⟨.inl rfl, .refl _, nofun⟩
  | cons p l ih =>
    obtain ⟨h1, h2, h3⟩ := ih (f z p)
    obtain ⟨g1, g2, g3⟩ := hf z p
    rw [List.foldl_cons]
    refine ⟨?_, h2.trans g2, fun q hq => ?_⟩
    · rcases h1 with h1 | h1
      · rw [h1]
        rcases g1 with g1 | g1 <;> rw [g1]
        · exact .inl rfl
        · exact .inr List.mem_cons_self
      · exact .inr (List.mem_cons_of_mem _ h1)
    · rcases List.mem_cons.mp hq with rfl | hq
      · exact h2.trans g3
      · exact h3 q hq

/-- The best of the pairs `(X r, r)` and `(⊥, 0)` is the first maximum. -/
theorem isFirst_of_best {X : ℕ → EReal} {n : ℕ} (hn : 0 < n) (hn' : n ≤ 2 ^ 31) (q : EReal × BitVec 32)
    (hmem : q = (⊥, 0#32) ∨ ∃ r < n, q = (X r, BitVec.ofNat 32 r)) (hbest : ∀ r < n, Beats q (X r, BitVec.ofNat 32 r)) :
    IsFirst X n q.1 q.2.toNat := by
  have hw : ∀ r < n, (BitVec.ofNat 32 r).toInt = r ∧ (BitVec.ofNat 32 r).toNat = r := fun r hr => by
    have h1 : (BitVec.ofNat 32 r).toNat = r := by rw [BitVec.toNat_ofNat]; exact Nat.mod_eq_of_lt (by omega)
    exact ⟨by rw [BitVec.toInt_eq_toNat_of_lt (by omega), h1], h1⟩
  have hle : ∀ r < n, X r ≤ q.1 := fun r hr => (hbest r hr).elim le_of_lt fun h => h.1 ▸ le_rfl
  have hat : ∃ r < n, q = (X r, BitVec.ofNat 32 r) := by
    rcases hmem with rfl | h
    · exact ⟨0, hn, Prod.ext (le_bot_iff.mp (hle 0 hn)).symm rfl⟩
    · exact h
  obtain ⟨r, hr, rfl⟩ := hat
  dsimp only at *
  rw [(hw r hr).2]
  refine ⟨hr, rfl, hle, fun r' hr' he => ?_⟩
  rcases hbest r' (hr'.trans hr) with h | ⟨-, h⟩
  · exact absurd he h.ne
  · dsimp only at h
    rw [(hw r hr).1, (hw r' (hr'.trans hr)).1] at h
    omega

end Cert.Proof.First

end
-- ==== Proof.PoolValue.lean ====
/-
  What the TensorCore kernel computes, over the extended reals: after its ten blocks, every column's maximum and the first
  row that attains it.
-/
module

public import proofs.«01_k».proof.Proof.Region
public import proofs.«01_k».proof.Proof.FirstMax
public import Idealize.ShloMosaic.Lib.Routing.Ops
public import Idealize.ShloMosaic.Lib.ValueIdx

@[expose] public section

noncomputable section

namespace Cert.Proof.Pool

open Cert.KernelIdeal Cert.KernelIdeal.Gen
open Idealize.ShloMosaic Idealize.ShloMosaic.ValueIdx
open Cert.Proof.First

/-- Column `c` of the argument, row by row. -/
def col (x : Vec Ideal S100000x512 .f32) (c : Fin 512) (r : ℕ) : EReal := x (ix2 ⟨r % 100000, Nat.mod_lt _ (by decide)⟩ c)

section Block

variable (x : Vec Ideal S100000x512 .f32) (t : Fin cfg0.N)

/-- The block of rows at a point, its four pieces side by side. -/
abbrev rows : Vec Ideal S10000x512 .f32 := k0_pay1 (xb0 x t) (xb1 x t) (xb2 x t) (xb3 x t)

theorem coord (t : Fin cfg0.N) : ((grid0.coords t) 0).val = t.val := by
  have h : ∀ t : Fin grid0.N, ((grid0.coords t) 0).val = t.val := by decide
  exact h t

/-- Entry `(r, q)` of piece `k` of the block is entry `(10000 t + r, 128 k + q)` of the argument. -/
theorem piece_apply (k : Fin 4) (r : Fin 10000) (q : Fin 128) (c : Fin 512) (hc : c.val = 128 * k.val + q.val) :
    (![xb0 x t, xb1 x t, xb2 x t, xb3 x t] k) (ix2 r q) = col x c (10000 * t.val + r.val) := by
  have ht : t.val < 10 := lt_of_lt_of_eq t.isLt N_0
  have hr := r.isLt
  have hw : (BitVec.ofNat 32 ((grid0.coords t) 0).val).toNat = t.val := by
    rw [coord, BitVec.toNat_ofNat]; exact Nat.mod_eq_of_lt (by omega)
  unfold col
  match k with
  | 0 =>
    refine congrArg x (funext fun a => Fin.ext ?_)
    match a with
    | ⟨0, _⟩ =>
      show (BitVec.ofNat 32 ((grid0.coords t) 0).val).toNat * 10000 + 1 * r.val = (10000 * t.val + r.val) % 100000
      rw [hw]; omega
    | ⟨1, _⟩ => exact (show 0 * 128 + 1 * q.val = c.val by omega)
  | 1 =>
    refine congrArg x (funext fun a => Fin.ext ?_)
    match a with
    | ⟨0, _⟩ =>
      show (BitVec.ofNat 32 ((grid0.coords t) 0).val).toNat * 10000 + 1 * r.val = (10000 * t.val + r.val) % 100000
      rw [hw]; omega
    | ⟨1, _⟩ => exact (show 1 * 128 + 1 * q.val = c.val by omega)
  | 2 =>
    refine congrArg x (funext fun a => Fin.ext ?_)
    match a with
    | ⟨0, _⟩ =>
      show (BitVec.ofNat 32 ((grid0.coords t) 0).val).toNat * 10000 + 1 * r.val = (10000 * t.val + r.val) % 100000
      rw [hw]; omega
    | ⟨1, _⟩ => exact (show 2 * 128 + 1 * q.val = c.val by omega)
  | 3 =>
    refine congrArg x (funext fun a => Fin.ext ?_)
    match a with
    | ⟨0, _⟩ =>
      show (BitVec.ofNat 32 ((grid0.coords t) 0).val).toNat * 10000 + 1 * r.val = (10000 * t.val + r.val) % 100000
      rw [hw]; omega
    | ⟨1, _⟩ => exact (show 3 * 128 + 1 * q.val = c.val by omega)

theorem rows_apply (r : Fin 10000) (c : Fin 512) : rows x t (ix2 r c) = col x c (10000 * t.val + r.val) := by
  have hc := c.isLt
  rw [← piece_apply x t ⟨c.val / 128, by omega⟩ r ⟨c.val % 128, by omega⟩ c (by show _ = 128 * (c.val / 128) + c.val % 128; omega)]
  refine concatenate_ofFn_apply (s₁ := S10000x128) (t := S10000x512) 1 (N := 4) ![xb0 x t, xb1 x t, xb2 x t, xb3 x t]
    concatenates_S10000x128_S10000x128_S10000x128_S10000x128_S10000x512_d1 rfl 128 rfl (ix2 r c) _ rfl _ rfl fun b hb => ?_
  match b with
  | ⟨0, _⟩ => rfl
  | ⟨1, _⟩ => exact absurd rfl hb

/-- The least coordinate's index over a column: the row inserted above it. -/
theorem lift_row (c : Fin 512) (r : Fin 10000) : reduces_S10000x512_S512.lift (ix1 c) r = (ix2 r c : S10000x512.Idx) := by
  funext a
  match a with
  | ⟨0, _⟩ => rfl
  | ⟨1, _⟩ => rfl

theorem ninf : FloatOps.ofBits (F := Ideal) .f32 0xFF800000#32 = (⊥ : EReal) := by
  show Ideal.ofBits .f32 _ = _
  simp [Ideal.ofBits, Ideal.ieee]

/-- A block's column maxima, and its column minima of words, as one row. -/
theorem max_row (v : FVec Ideal S10000x512 .f32) (c : Fin 512) :
    shapeCast S1x512 (multiReduction .maximumf [0] S512 v 0xFF800000#32 reduces_S10000x512_S512 (.inl rfl) rfl) shapeCasts_S512_S1x512 (ix2 0 c)
      = (Finset.univ : Finset (Fin 10000)).fold max ⊥ fun r => v (ix2 r c) := by
  refine (Routing.cast12 (multiReduction .maximumf [0] S512 v 0xFF800000#32 reduces_S10000x512_S512 (.inl rfl) rfl) shapeCasts_S512_S1x512 0 c c
    (by show c.val = 0 * 512 + c.val; omega)).trans ?_
  refine (Ideal.multiReduction_maximumf_single v _ reduces_S10000x512_S512 (.inl rfl) rfl (ix1 c)).trans ?_
  rw [show FloatOps.ofBits (F := Ideal) .f32 (FKind.maximumf.neutral .f32 (.inl rfl)) = (⊥ : EReal) from ninf]
  exact congrArg (fun f => (Finset.univ : Finset (Fin 10000)).fold max (⊥ : EReal) f) (funext fun r => congrArg v (lift_row c r))

theorem min_row (v : IVec S10000x512 32) (c : Fin 512) :
    shapeCast S1x512 (multiReductionI .minsi [0] S512 v 2147483647#32 reduces_S10000x512_S512 rfl) shapeCasts_S512_S1x512 (ix2 0 c)
      = (Finset.univ : Finset (Fin 10000)).fold IntOp.minsi 2147483647#32 fun r => v (ix2 r c) := by
  refine (Routing.cast12 (multiReductionI .minsi [0] S512 v 2147483647#32 reduces_S10000x512_S512 rfl) shapeCasts_S512_S1x512 0 c c
    (by show c.val = 0 * 512 + c.val; omega)).trans ?_
  refine (multiReductionI_eq_fold .minsi v 2147483647#32 reduces_S10000x512_S512 rfl (ix1 c)).trans ?_
  refine (Shape.Reduces.fold_filter_drop_single reduces_S10000x512_S512 (IKind.op .minsi) 2147483647#32 v (ix1 c)).trans ?_
  exact congrArg (fun f => (Finset.univ : Finset (Fin 10000)).fold IntOp.minsi 2147483647#32 f) (funext fun r => congrArg v (lift_row c r))

/-- The block's column maxima, and their row numbers. -/
abbrev top : Vec Ideal S1x512 .f32 := k0_pay2 (xb0 x t) (xb1 x t) (xb2 x t) (xb3 x t)
abbrev place : IVec S1x512 32 := k0_pay3 (grid0.coords t) (xb0 x t) (xb1 x t) (xb2 x t) (xb3 x t)

/-- Row `r`'s word in the minimum: its number where it attains the maximum, and one that is larger than any elsewhere. -/
def word (c : Fin 512) (r : Fin 10000) : BitVec 32 :=
  if rows x t (ix2 r c) = top x t (ix2 0 c) then BitVec.ofNat 32 (10000 * t.val + r.val) else 100000#32

theorem top_eq (c : Fin 512) : top x t (ix2 0 c) = (Finset.univ : Finset (Fin 10000)).fold max ⊥ fun r => rows x t (ix2 r c) := by
  unfold top k0_pay2
  exact max_row (rows x t) c

theorem place_eq (c : Fin 512) : place x t (ix2 0 c) = (Finset.univ : Finset (Fin 10000)).fold IntOp.minsi 2147483647#32 (word x t c) := by
  unfold place k0_pay3
  refine (min_row _ c).trans ?_
  refine congrArg (fun f => (Finset.univ : Finset (Fin 10000)).fold IntOp.minsi 2147483647#32 f) (funext fun r => ?_)
  rw [select_apply, cmpf_apply, Ideal.cmpf_def, broadcast_apply]
  have hb : broadcastTo S10000x512 (top x t) broadcasts_S1x512_S10000x512 (ix2 r c) = top x t (ix2 0 c) :=
    broadcastTo_apply (top x t) broadcasts_S1x512_S10000x512 (ix2 r c) (ix2 0 c) fun a => by
      match a with
      | ⟨0, _⟩ => rfl
      | ⟨1, _⟩ => rfl
  have hi : addi (iota .tc S10000x512 32 [0] iota_S10000x512_d0_w32)
      (broadcast S10000x512 (Scalar.muli (BitVec.ofNat 32 ((grid0.coords t) 0).val) 10000#32)) (ix2 r c)
      = BitVec.ofNat 32 (10000 * t.val + r.val) := by
    show IntOp.addi (iota .tc S10000x512 32 [0] iota_S10000x512_d0_w32 (ix2 r c)) (IntOp.muli (BitVec.ofNat 32 ((grid0.coords t) 0).val) 10000#32) = _
    rw [iota_single_apply, coord]
    show BitVec.ofNat 32 r.val + BitVec.ofNat 32 t.val * BitVec.ofNat 32 10000 = _
    rw [← BitVec.ofNat_mul, ← BitVec.ofNat_add]
    exact congrArg (BitVec.ofNat 32) (by omega)
  rw [hb, hi]
  unfold word
  by_cases h : rows x t (ix2 r c) = top x t (ix2 0 c)
  · rw [if_pos h]
    show Scalar.select (BitVec.ofBool (decide (rows x t (ix2 r c) = top x t (ix2 0 c)))) _ _ = _
    rw [decide_eq_true h]; rfl
  · rw [if_neg h]
    show Scalar.select (BitVec.ofBool (decide (rows x t (ix2 r c) = top x t (ix2 0 c)))) _ _ = _
    rw [decide_eq_false h]; rfl

/-- A block leaves each column's maximum over its rows and the first row that attains it. -/
theorem block_first (c : Fin 512) : ∃ i, IsFirst (fun r => col x c (10000 * t.val + r)) 10000 (top x t (ix2 0 c)) i
    ∧ (place x t (ix2 0 c)).toNat = 10000 * t.val + i := by
  have ht : t.val < 10 := lt_of_lt_of_eq t.isLt N_0
  obtain ⟨h1, r, -, h2⟩ := fold_max_spec (Finset.univ : Finset (Fin 10000)) ⟨0, Finset.mem_univ _⟩ fun r => rows x t (ix2 r c)
  rw [← top_eq] at h1 h2
  obtain ⟨i, hi⟩ := IsFirst.exists_of_max (X := fun r => col x c (10000 * t.val + r)) (n := 10000) (m := top x t (ix2 0 c))
    (fun r hr => by rw [← rows_apply x t ⟨r, hr⟩ c]; exact h1 _ (Finset.mem_univ _)) ⟨r.val, r.isLt, by rw [← rows_apply x t r c]; exact h2⟩
  refine ⟨i, hi, ?_⟩
  have hw : ∀ r : Fin 10000, (BitVec.ofNat 32 (10000 * t.val + r.val)).toNat = 10000 * t.val + r.val := fun r => by
    have := r.isLt
    rw [BitVec.toNat_ofNat]; exact Nat.mod_eq_of_lt (by omega)
  have hI : ∀ r : Fin 10000, (BitVec.ofNat 32 (10000 * t.val + r.val)).toInt = ((10000 * t.val + r.val : ℕ) : ℤ) := fun r => by
    have := hw r
    have := r.isLt
    rw [BitVec.toInt_eq_toNat_of_lt (by omega), hw r]
  obtain ⟨g1, g2⟩ := fold_minsi_spec (Finset.univ : Finset (Fin 10000)) 2147483647#32 (word x t c)
  rw [← place_eq] at g1 g2
  have hle := g1 ⟨i, hi.lt⟩ (Finset.mem_univ _)
  have hwi : word x t c ⟨i, hi.lt⟩ = BitVec.ofNat 32 (10000 * t.val + i) := if_pos ((rows_apply x t ⟨i, hi.lt⟩ c).trans hi.at_)
  have hIi := hI ⟨i, hi.lt⟩
  have hil := hi.lt
  rw [hwi, hIi] at hle
  have e1 : (2147483647#32 : BitVec 32).toInt = 2147483647 := rfl
  have e2 : (100000#32 : BitVec 32).toInt = 100000 := rfl
  rcases g2 with g2 | ⟨r, -, g2⟩
  · rw [g2, e1] at hle; dsimp only at hle; omega
  · unfold word at g2
    by_cases hr : rows x t (ix2 r c) = top x t (ix2 0 c)
    · rw [if_pos hr] at g2
      rw [g2, hI r] at hle
      dsimp only at hle
      have hir : ¬ r.val < i := fun hc => hi.before r.val hc ((rows_apply x t r c).symm.trans hr)
      rw [g2, hw r]; omega
    · rw [if_neg hr] at g2
      rw [g2, e2] at hle; dsimp only at hle; omega

end Block

/-! ## All blocks -/

/-- Whether a value is larger, as a one-bit word. -/
theorem larger (a b : EReal) : Ideal.cmp .ogt a b = if b < a then 1#1 else 0#1 := by
  unfold Ideal.cmp
  by_cases h : b < a <;> simp [h]

/-- A choice by whether a value is larger. -/
theorem choose_larger {α : Type} (a b : EReal) (u v : α) : Scalar.select (Ideal.cmp .ogt a b) u v = if b < a then u else v := by
  rw [larger]
  by_cases h : b < a
  · rw [if_pos h, if_pos h]; rfl
  · rw [if_neg h, if_neg h]; rfl

/-- Entry `c` of a row of extended reals. -/
def entry (v : S1x512.Idx → EReal) (c : Fin 512) : EReal := v (ix2 0 c)

/-- A later block's update: both accumulators change where the block's maximum is strictly larger. -/
theorem later_max (v0 v1 v2 v3 : Vec Ideal S10000x128 .f32) (m : Vec Ideal S1x512 .f32) (c : Fin 512) :
    entry (k0_pay6 v0 v1 v2 v3 m m) c = if entry m c < entry (k0_pay2 v0 v1 v2 v3) c then entry (k0_pay2 v0 v1 v2 v3) c else entry m c := by
  unfold k0_pay6 k0_pay4
  generalize k0_pay2 v0 v1 v2 v3 = p
  unfold entry
  rw [shapeCast_self]
  dsimp only
  rw [select_apply, cmpf_apply, Ideal.cmpf_def]
  exact choose_larger _ _ _ _

theorem later_place (i : grid0.Coords) (v0 v1 v2 v3 : Vec Ideal S10000x128 .f32) (m : Vec Ideal S1x512 .f32) (w : Vec Ideal S1x512 .i32) (c : Fin 512) :
    k0_pay5 i v0 v1 v2 v3 m w (ix2 0 c) = if entry m c < entry (k0_pay2 v0 v1 v2 v3) c then k0_pay3 i v0 v1 v2 v3 (ix2 0 c) else w (ix2 0 c) := by
  unfold k0_pay5 k0_pay4
  generalize k0_pay2 v0 v1 v2 v3 = p
  generalize k0_pay3 i v0 v1 v2 v3 = q
  rw [shapeCast_self, shapeCast_self, select_apply, cmpf_apply, Ideal.cmpf_def]
  exact choose_larger _ _ _ _

/-- After `n + 1` blocks the accumulators hold every column's first maximum over the rows so far. -/
theorem acc_spec (x : Vec Ideal S100000x512 .f32) (c : Fin 512) : ∀ n < 10,
    IsFirst (col x c) (10000 * (n + 1)) ((acc x n).1 (ix2 0 c)) ((acc x n).2 (ix2 0 c)).toNat
  | 0, _ => by
    have hz : (pt 0).val = 0 := rfl
    have h0 := acc_first x (pt 0) hz
    rw [hz] at h0
    obtain ⟨i, hi, hp⟩ := block_first x (pt 0) c
    rw [hz] at hi hp
    rw [congrArg Prod.fst h0, congrArg Prod.snd h0]
    dsimp only
    rw [hp]
    simpa only [Nat.mul_zero, Nat.zero_add, Nat.mul_one] using hi
  | n + 1, hn => by
    have ih := acc_spec x c n (by omega)
    have hv : (pt (n + 1)).val = n + 1 := Nat.mod_eq_of_lt hn
    have hs := acc_later x (pt (n + 1)) n hv
    rw [hv] at hs
    obtain ⟨i, hi, hp⟩ := block_first x (pt (n + 1)) c
    rw [hv] at hi hp
    have hA := ih.append hi
    have e1 : entry (acc x (n + 1)).1 c = if entry (acc x n).1 c < entry (top x (pt (n + 1))) c then entry (top x (pt (n + 1))) c else entry (acc x n).1 c := by
      rw [congrArg Prod.fst hs]
      dsimp only
      exact later_max (xb0 x (pt (n + 1))) (xb1 x (pt (n + 1))) (xb2 x (pt (n + 1))) (xb3 x (pt (n + 1))) (acc x n).1 c
    have e2 : ((acc x (n + 1)).2 (ix2 0 c)).toNat = if entry (acc x n).1 c < entry (top x (pt (n + 1))) c then 10000 * (n + 1) + i else ((acc x n).2 (ix2 0 c)).toNat := by
      rw [congrArg Prod.snd hs, ← hp, ← apply_ite BitVec.toNat]
      dsimp only
      exact congrArg BitVec.toNat (later_place (grid0.coords (pt (n + 1))) (xb0 x (pt (n + 1))) (xb1 x (pt (n + 1))) (xb2 x (pt (n + 1))) (xb3 x (pt (n + 1))) (acc x n).1 (acc x n).2 c)
    show IsFirst (col x c) (10000 * (n + 1 + 1)) (entry (acc x (n + 1)).1 c) _
    rw [e1, e2, show 10000 * (n + 1 + 1) = 10000 * (n + 1) + 10000 by omega]
    exact hA

/-- The pooled row holds every column's maximum, and the kept row numbers hold where each is first reached. -/
theorem pooled_first (x : Vec Ideal S100000x512 .f32) (c : Fin 512) :
    IsFirst (col x c) 100000 (maxOf x (ix2 0 c)) (idxOf x (ix2 0 c)).toNat := acc_spec x c 9 (by omega)

end Cert.Proof.Pool

end
-- ==== Proof.RefValue.lean ====
/-
  The reference's column maxima and row numbers over the extended reals: the arg-max names the first row that attains its
  column's maximum. So both rows are the kernel's.
-/
module

public import proofs.«01_k».proof.Proof.PoolValue
public import proofs.«01_k».proof.Proof.Reference

@[expose] public section

noncomputable section

namespace Cert.Proof.Ref

open Cert.ReferenceIdeal Cert.ReferenceIdeal.Gen
open Idealize.ShloMosaic Idealize.ShloMosaic.ValueIdx
open Cert.Proof.First

/-- The reducer keeps the better of its two pairs. -/
theorem reducer_best (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨p, v⟩ := a
  obtain ⟨q, w⟩ := b
  have hne : Ideal.cmp .une p p = 0#1 := by simp [Ideal.cmp]
  have hslt : IntOp.cmpi .slt v w = if v.toInt < w.toInt then 1#1 else 0#1 := by
    by_cases h : v.toInt < w.toInt <;> simp [IntOp.cmpi, BitVec.slt, h]
  have key : reducer_argmax_f32_i32 (F := Ideal) (p, v) (q, w)
      = if q < p then (p, v) else if p = q ∧ v.toInt < w.toInt then (q, v) else (q, w) := by
    unfold reducer_argmax_f32_i32
    simp only [Ideal.cmpf_def, hne, hslt]
    by_cases h : q < p
    · simp [Ideal.cmp, IntOp.ori, IntOp.andi, Scalar.select, h, h.ne']
    · by_cases he : p = q <;> by_cases hv : v.toInt < w.toInt <;>
        simp [Ideal.cmp, IntOp.ori, IntOp.andi, Scalar.select, h, he, hv]
  rw [key]
  by_cases h : q < p
  · rw [if_pos h]
    exact ⟨.inl rfl, .refl _, .inl h⟩
  · rw [if_neg h]
    by_cases h' : p = q ∧ v.toInt < w.toInt
    · rw [if_pos h', ← h'.1]
      exact ⟨.inl rfl, .refl _, .inr ⟨rfl, h'.2.le⟩⟩
    · rw [if_neg h']
      refine ⟨.inr rfl, ?_, .refl _⟩
      by_cases he : p = q
      · exact .inr ⟨he.symm, not_lt.mp fun hv => h' ⟨he, hv⟩⟩
      · exact .inl (lt_of_le_of_ne (not_lt.mp h) he)

/-- An index falls in a column's fiber exactly when its second coordinate is the column. -/
theorem drop_eq_iff (i : S100000x512.Idx) (c : Fin 512) :
    reducesTo_S100000x512_S512_d0.drop i = ix1 c ↔ i 1 = c := by
  have h := Shape.ReducesTo.drop_apply_val_of_eq reducesTo_S100000x512_S512_d0 i 0 1
  constructor
  · intro e
    rw [e] at h
    exact Fin.ext h.symm
  · intro e
    refine funext fun a => ?_
    match a with
    | ⟨0, _⟩ => exact Fin.ext (h.trans (congrArg Fin.val e))

variable (x : Vec Ideal S100000x512 .f32)

/-- The pairs the arg-max reads for a column: every row's entry with its number. -/
theorem mem_fiber (c : Fin 512) (p : EReal × BitVec 32) :
    p ∈ Host.argReduceFiber x (iotaInDim S100000x512 32 0) reducesTo_S100000x512_S512_d0 (ix1 c)
      ↔ ∃ r < 100000, p = (Pool.col x c r, BitVec.ofNat 32 r) := by
  unfold Host.argReduceFiber
  simp only [List.mem_map, List.mem_filter, List.mem_finRange, true_and, decide_eq_true_eq, drop_eq_iff]
  have hat : ∀ r : Fin 100000, ∀ r' : ℕ, r' = r.val → Pool.col x c r' = x (ix2 r c) := fun r r' h => by
    subst h
    exact congrArg (fun k => x (ix2 k c)) (Fin.ext (Nat.mod_eq_of_lt r.isLt))
  constructor
  · rintro ⟨n, hn, rfl⟩
    generalize S100000x512.rowMajor.symm n = i at hn ⊢
    refine ⟨(i 0).val, (i 0).isLt, Prod.ext ?_ rfl⟩
    rw [hat (i 0) _ rfl, ← hn]
    exact congrArg x (eq_ix2 i)
  · rintro ⟨r, hr, rfl⟩
    refine ⟨S100000x512.rowMajor (ix2 ⟨r, hr⟩ c), ?_, ?_⟩
    · rw [Equiv.symm_apply_apply]
    · rw [Equiv.symm_apply_apply, hat ⟨r, hr⟩ r rfl]; rfl

/-- An arg-max's row numbers, as folds over the pairs it reads. -/
theorem argReduce_snd {s t u : Shape} {axes : List (Fin s.rank)} (f : Ideal .f32 × BitVec 32 → Ideal .f32 × BitVec 32 → Ideal .f32 × BitVec 32)
    (x : FVec Ideal s .f32) (y : IVec s 32) (z : FVec Ideal u .f32) (w : IVec u 32) (h : s.ReducesTo axes t) (hu : 0 < u.numel) :
    (fun j => (Host.argReduce f x y z w h hu j).2)
      = fun j => ((Host.argReduceFiber x y h j).foldl f (z (Shape.Idx.first hu), w (Shape.Idx.first hu))).2 := by
  funext j
  rw [Ideal.argReduce_eq_reduce2, Host.reduce2_eq_foldl_fiber]

theorem argR_eq : argR x = fun j => ((Host.argReduceFiber x (iotaInDim S100000x512 32 0) reducesTo_S100000x512_S512_d0 j).foldl
    (reducer_argmax_f32_i32 (F := Ideal)) (constant (F := Ideal) S_ .f32 0xFF800000#32 (Shape.Idx.first h_S_), constantI S_ 32 0#32 (Shape.Idx.first h_S_))).2 :=
  argReduce_snd (reducer_argmax_f32_i32 (F := Ideal)) x (iotaInDim S100000x512 32 0) (constant S_ .f32 0xFF800000#32) (constantI S_ 32 0#32)
    reducesTo_S100000x512_S512_d0 h_S_

/-- The arg-max names the first row that attains the column's maximum. -/
theorem arg_first (c : Fin 512) : ∃ m, IsFirst (Pool.col x c) 100000 m (argR x (ix1 c)).toNat := by
  have hz : (constant (F := Ideal) S_ .f32 0xFF800000#32 (Shape.Idx.first h_S_), constantI S_ 32 0#32 (Shape.Idx.first h_S_)) = ((⊥ : EReal), 0#32) :=
    Prod.ext Pool.ninf rfl
  obtain ⟨h1, -, h3⟩ := foldl_best _ reducer_best
    (Host.argReduceFiber x (iotaInDim S100000x512 32 0) reducesTo_S100000x512_S512_d0 (ix1 c)) ((⊥ : EReal), 0#32)
  rw [argR_eq, hz]
  have hm := fun p => mem_fiber x c p
  beta_reduce
  generalize Host.argReduceFiber x (iotaInDim S100000x512 32 0) reducesTo_S100000x512_S512_d0 (ix1 c) = l at h1 h3 hm ⊢
  exact ⟨_, isFirst_of_best (by norm_num) (by norm_num) _ (h1.imp id (hm _).mp) fun r hr => h3 _ ((hm _).mpr ⟨r, hr, rfl⟩)⟩

theorem reduces_all : S100000x512.Reduces [0] S512 := by decide

theorem reduce_max (x : FVec Ideal S100000x512 .f32) (z : FVec Ideal S_ .f32) (c : Fin 512) :
    Host.reduce FloatOps.maximumf x z reducesTo_S100000x512_S512_d0 h_S_ (ix1 c)
      = (Finset.univ : Finset (Fin (S100000x512.size 0))).fold FloatOps.maximumf (z (Shape.Idx.first h_S_)) (x ∘ reduces_all.lift (ix1 c)) :=
  Host.reduce_eq_fold_single FloatOps.maximumf x z reducesTo_S100000x512_S512_d0 reduces_all h_S_ (ix1 c)

/-- The reference's maximum is the largest of the column. -/
theorem maxR_apply (c : Fin 512) : maxR x (ix1 c) = (Finset.univ : Finset (Fin 100000)).fold max ⊥ fun r => x (ix2 r c) := by
  unfold maxR
  refine (reduce_max x (constant S_ .f32 0xFF800000#32) c).trans ?_
  rw [show constant (F := Ideal) S_ .f32 0xFF800000#32 (Shape.Idx.first h_S_) = (⊥ : EReal) from Pool.ninf]
  refine congrArg (fun f => (Finset.univ : Finset (Fin 100000)).fold max (⊥ : EReal) f) (funext fun r => congrArg x (funext fun a => ?_))
  match a with
  | ⟨0, _⟩ => rfl
  | ⟨1, _⟩ => rfl

theorem max_eq (c : Fin 512) : maxR x (ix1 c) = Pool.maxOf x (ix2 0 c) := by
  have h := Pool.pooled_first x c
  obtain ⟨h1, r, -, h2⟩ := fold_max_spec (Finset.univ : Finset (Fin 100000)) ⟨0, Finset.mem_univ _⟩ fun r => x (ix2 r c)
  rw [← maxR_apply] at h1 h2
  have hat : ∀ r : Fin 100000, Pool.col x c r.val = x (ix2 r c) := fun r =>
    congrArg (fun k => x (ix2 k c)) (Fin.ext (Nat.mod_eq_of_lt r.isLt))
  refine le_antisymm ?_ ?_
  · rw [← h2, ← hat r]
    exact h.le r.val r.isLt
  · rw [← h.at_, hat ⟨_, h.lt⟩]
    exact h1 _ (Finset.mem_univ _)

/-- The row numbers are the kernel's, and none is past the last row. -/
theorem arg_eq_place (c : Fin 512) : argR x (ix1 c) = Pool.idxOf x (ix2 0 c) := by
  obtain ⟨m, h⟩ := arg_first x c
  exact BitVec.eq_of_toNat_eq (h.unique (Pool.pooled_first x c)).2

theorem arg_lt (c : Fin 512) : (argR x (ix1 c)).toNat < 100000 := by
  obtain ⟨m, h⟩ := arg_first x c
  exact h.lt

/-- The kernel's two rows are the reference's. -/
theorem row_same : Pool.maxOf x = rowR x := by
  funext i
  obtain ⟨a, c, rfl⟩ : ∃ a c, i = (ix2 a c : S1x512.Idx) := ⟨i 0, i 1, eq_ix2 i⟩
  obtain rfl : a = 0 := Subsingleton.elim _ _
  rw [← max_eq]
  exact (Routing.cast12 (maxR x) shapeCasts_S512_S1x512 0 c c (by show c.val = 0 * 512 + c.val; omega)).symm

end Cert.Proof.Ref

end
-- ==== Proof.Count.lean ====
/-
  Counting by folding: a fold that takes one more step at every hit, the counts of a list of words over the bins, their total,
  and the share of 512 that a count is.
-/
module

public import Idealize.ShloMosaic.PureOps.Ideal.Laws
public import Idealize.ShloMosaic.Lib.Routing.OpsPair

@[expose] public section

noncomputable section

namespace Cert.Proof.Count

open Idealize.ShloMosaic

/-- A fold over `N` positions that steps from `s c` to `s (c + 1)` at a hit and stays otherwise ends at the number of hits. -/
theorem foldl_hits {α : Type} (s : ℕ → α) (f : α → α) (hf : ∀ c, f (s c) = s (c + 1)) (P : ℕ → Prop) [DecidablePred P] :
    ∀ (N : ℕ) (step : α → Fin N → α) (_ : ∀ a k, step a k = if P k.val then f a else a) (c : ℕ),
      (List.finRange N).foldl step (s c) = s (c + Nat.count P N)
  | 0, _, _, _ => rfl
  | N + 1, step, hs, c => by
    rw [List.finRange_succ_last, List.foldl_append, List.foldl_map, foldl_hits s f hf P N (fun a k => step a k.castSucc) (fun a k => hs a k.castSucc) c,
      List.foldl_cons, List.foldl_nil, hs, Nat.count_succ]
    show (if P N then _ else _) = _
    by_cases h : P N
    · rw [if_pos h, if_pos h, hf, Nat.add_assoc]
    · rw [if_neg h, if_neg h, Nat.add_zero]

/-- How many of the first `n` words are the number `k`. -/
def tally (w : ℕ → ℕ) (k n : ℕ) : ℕ := Nat.count (fun q => w q = k) n

theorem tally_le (w : ℕ → ℕ) (k n : ℕ) : tally w k n ≤ n := Nat.count_le _

/-- Words below `N` are counted once each over the `N` bins. -/
theorem sum_tally (w : ℕ → ℕ) (N : ℕ) (hw : ∀ q, w q < N) (n : ℕ) : ∑ k : Fin N, tally w k.val n = n := by
  induction n with
  | zero => simp [tally]
  | succ n ih =>
    have h1 : ∑ k : Fin N, (if w n = k.val then 1 else 0) = 1 := by
      rw [Finset.sum_eq_single ⟨w n, hw n⟩ (fun k _ hk => if_neg fun h => hk (Fin.ext h.symm)) fun h => absurd (Finset.mem_univ _) h]
      exact if_pos rfl
    simp only [tally, Nat.count_succ, Finset.sum_add_distrib] at ih ⊢
    rw [ih, h1]

/-- A count's share of 512. -/
def share (c : ℕ) : EReal := (((c : ℝ) / 512 : ℝ) : EReal)

theorem unit_share : Ideal.ofBits .f32 0x3B000000#32 = share 1 := by
  have h : Ideal.ofBits .f32 0x3B000000#32 = ((1 / 512 : ℝ) : EReal) := by
    simp [Ideal.ofBits, Ideal.ieee]
    rw [← EReal.coe_mul]
    norm_num
  rw [h]
  unfold share
  norm_num

theorem share_zero : share 0 = 0 := by simp [share]
theorem share_succ (c : ℕ) : share c + share 1 = share (c + 1) := by
  unfold share
  rw [← EReal.coe_add]
  congr 1
  push_cast
  ring

theorem sum_coe {ι : Type} (s : Finset ι) (f : ι → ℕ) : ∑ i ∈ s, (((f i : ℕ) : ℝ) : EReal) = (((∑ i ∈ s, f i : ℕ) : ℝ) : EReal) := by
  classical
  induction s using Finset.induction_on with
  | empty => simp
  | insert a s ha ih =>
    rw [Finset.sum_insert ha, Finset.sum_insert ha, ih, ← EReal.coe_add]
    push_cast
    rfl

/-- A count over 512. -/
theorem div_share (c : ℕ) : Ideal.div ((c : ℝ) : EReal) ((512 : ℝ) : EReal) = share c := by
  have h : ((512 : ℝ) : EReal) ≠ 0 := by
    intro h
    have := EReal.coe_eq_zero.mp h
    norm_num at this
  unfold Ideal.div share
  rw [if_neg h, ← EReal.coe_inv, ← EReal.coe_mul, div_eq_mul_inv]

end Cert.Proof.Count

end
-- ==== Proof.RefHist.lean ====
/-
  The reference's histogram over the extended reals: bin `k` is the share of the words that are `k`.
-/
module

public import proofs.«01_k».proof.Proof.Reference
public import proofs.«01_k».proof.Proof.Count
public import Idealize.ShloMosaic.Lib.Routing.Ops
public import Idealize.ShloMosaic.Lib.ValueIdx

@[expose] public section

noncomputable section

namespace Cert.Proof.Ref

open Cert.ReferenceIdeal Cert.ReferenceIdeal.Gen
open Idealize.ShloMosaic Idealize.ShloMosaic.ValueIdx
open Cert.Proof.Count

variable (ix : IVec S512 32)

/-- The words' numbers, word `q` counted round. -/
abbrev num (q : ℕ) : ℕ := (ix (ix1 ⟨q % 512, Nat.mod_lt _ (by decide)⟩)).toNat

theorem num_fin (q : Fin 512) : num ix q.val = (ix (ix1 q)).toNat :=
  congrArg (fun k => (ix (ix1 k)).toNat) (Fin.ext (Nat.mod_eq_of_lt q.isLt))

/-- A host division, read at an entry. -/
theorem divf_at {s : Shape} (a b : FVec Ideal s .f32) (i : s.Idx) : Host.divf a b i = Ideal.div (a i) (b i) := rfl

section Bounded

variable (hw : ∀ q, num ix q < 100000)
include hw

theorem toInt_word (q : Fin 512) : (ix (ix1 q)).toInt = (num ix q.val : ℤ) := by
  have h := hw q.val
  rw [num_fin] at h ⊢
  exact BitVec.toInt_eq_toNat_of_lt (by omega)

/-- Row numbers are not negative: neither the clip nor the count from the end changes one. -/
theorem clip_id : clipR ix = ix := by
  funext i
  obtain ⟨q, rfl⟩ : ∃ q : Fin 512, i = ix1 q := ⟨i 0, eq_ix1 i⟩
  have h := toInt_word ix hw q
  show IntOp.maxsi 0#32 (ix (ix1 q)) = ix (ix1 q)
  have h0 : (0#32).toInt = 0 := rfl
  unfold IntOp.maxsi
  simp only [BitVec.slt_eq_decide, BitVec.sle_eq_decide, decide_eq_true_eq]
  split_ifs with hc
  · exact absurd hc (by omega)
  · rfl

theorem wrap_id : wrapR ix = ix := by
  funext i
  obtain ⟨q, rfl⟩ : ∃ q : Fin 512, i = ix1 q := ⟨i 0, eq_ix1 i⟩
  have h := toInt_word ix hw q
  show Scalar.select (IntOp.cmpi .slt (ix (ix1 q)) 0#32) _ (ix (ix1 q)) = ix (ix1 q)
  have h0 : (0#32).toInt = 0 := rfl
  have hc : IntOp.cmpi .slt (ix (ix1 q)) 0#32 = 0#1 := by
    simp only [IntOp.cmpi, BitVec.slt_eq_decide]
    rw [decide_eq_false (by omega)]; rfl
  rw [hc]; rfl

/-- Update `q` lands in bin `k` exactly when word `q` is `k`. -/
theorem lands (q : Fin 512) (k : Fin 100000) :
    scatter_S100000_S512x1_S512_n_0_0_1.resultIdx? (ix1 q) (broadcastInDim S512x1 ![0] bcast_S512_S512x1_0 ix) = some (ix1 k) ↔ num ix q.val = k.val := by
  have hwin : scatter_S100000_S512x1_S512_n_0_0_1.window (ix1 q) 0 = 0 := rfl
  have hstart : scatter_S100000_S512x1_S512_n_0_0_1.start (ix1 q) (broadcastInDim S512x1 ![0] bcast_S512_S512x1_0 ix) 0 = (ix (ix1 q)).toInt := by
    unfold ScatterDims.start
    rw [dif_pos (show (0 : Fin 1) ∈ scatter_S100000_S512x1_S512_n_0_0_1.scatterDimsToOperandDims from List.mem_singleton.2 rfl)]
    refine congrArg BitVec.toInt (Eq.trans (congrArg _ ?_) (Routing.bcCol bcast_S512_S512x1_0 ix q))
    funext a
    match a with
    | ⟨0, _⟩ => rfl
    | ⟨1, _⟩ => rfl
  rw [Routing.resultIdx?_eq_some]
  constructor
  · intro h
    have h0 := h 0
    rw [hwin, hstart, toInt_word ix hw] at h0
    have : ((num ix q.val : ℕ) : ℤ) = (k.val : ℤ) := by simpa using h0
    exact_mod_cast this
  · intro h a
    obtain rfl : a = 0 := Subsingleton.elim _ _
    rw [hwin, hstart, toInt_word ix hw, h]
    simp

/-- The counts. -/
theorem count_apply (k : Fin 100000) : countR ix (ix1 k) = BitVec.ofNat 32 (tally (num ix) k.val 512) := by
  unfold countR
  rw [Routing.scatter_at]
  have h := foldl_hits (BitVec.ofNat 32) (fun a => IntOp.addi a 1#32) (fun c => (BitVec.ofNat_add c 1).symm) (fun q => num ix q = k.val) (Shape.numel S512)
    (fun a n => if scatter_S100000_S512x1_S512_n_0_0_1.resultIdx? (S512.rowMajor.symm n) (broadcastInDim S512x1 ![0] bcast_S512_S512x1_0 ix) = some (ix1 k)
      then IntOp.addi a 1#32 else a)
    (fun a n => if_congr (by rw [Routing.symm1 n]; exact lands ix hw _ k) rfl rfl) 0
  rw [Nat.zero_add] at h
  exact h.trans (congrArg (fun M => BitVec.ofNat 32 (tally (num ix) k.val M)) (Routing.numel1 512))

/-- A count read as a real. -/
theorem count_real (k : Fin 100000) : (sitofp .f32 (countR ix) : FVec Ideal S100000 .f32) (ix1 k) = (((tally (num ix) k.val 512 : ℕ) : ℝ) : EReal) := by
  have hle := tally_le (num ix) k.val 512
  have hn : (BitVec.ofNat 32 (tally (num ix) k.val 512)).toInt = (tally (num ix) k.val 512 : ℤ) := by
    have : (BitVec.ofNat 32 (tally (num ix) k.val 512)).toNat = tally (num ix) k.val 512 := by
      rw [BitVec.toNat_ofNat]; exact Nat.mod_eq_of_lt (by omega)
    rw [BitVec.toInt_eq_toNat_of_lt (by omega), this]
  show (((countR ix (ix1 k)).toInt : ℝ) : EReal) = _
  rw [count_apply ix hw, hn]
  push_cast
  rfl

/-- They add up to the number of words. -/
theorem total (j : S_.Idx) :
    Host.reduceAdd (sitofp .f32 (countR ix) : FVec Ideal S100000 .f32) (constant S_ .f32 0x00000000#32) reducesTo_S100000_S_d0 h_S_ j = ((512 : ℝ) : EReal) := by
  have e := Ideal.hostReduceAdd_total reducesTo_S100000_S_d0 (fun b => b.elim0) (sitofp .f32 (countR ix) : FVec Ideal S100000 .f32) (Ideal.ofBits .f32 0x00000000#32) j
  refine Eq.trans (show _ = Ideal.hostReduceAdd reducesTo_S100000_S_d0 (sitofp .f32 (countR ix) : FVec Ideal S100000 .f32) (Ideal.ofBits .f32 0x00000000#32) j from rfl) ?_
  rw [e, Ideal.ofBits_zero_f32, zero_add]
  have hs : ∑ i : S100000.Idx, (sitofp .f32 (countR ix) : FVec Ideal S100000 .f32) i
      = ∑ k : Fin 100000, (sitofp .f32 (countR ix) : FVec Ideal S100000 .f32) (ix1 k) :=
    Fintype.sum_equiv ⟨fun i => i 0, fun k => ix1 k, fun i => (eq_ix1 i).symm, fun _ => rfl⟩ _ _ fun i => congrArg _ (eq_ix1 i)
  rw [hs, Finset.sum_congr rfl fun k _ => count_real ix hw k, sum_coe, sum_tally (num ix) 100000 hw]
  norm_num

/-- Each bin's share. -/
theorem share_apply (k : Fin 100000) : shareR (F := Ideal) (countR ix) (ix1 k) = share (tally (num ix) k.val 512) := by
  unfold shareR
  rw [divf_at, Routing.bc0, total ix hw, count_real ix hw, div_share]

end Bounded

end Cert.Proof.Ref

end
-- ==== Proof.TileValue.lean ====
/-
  What the SparseCore kernel computes, over the extended reals: bin `k` is the share of the words that are `k`.
-/
module

public import proofs.«01_k».proof.Proof.Tile
public import proofs.«01_k».proof.Proof.Count

@[expose] public section

noncomputable section

namespace Cert.Proof.Pool

open Cert.KernelIdeal Cert.KernelIdeal.Gen
open Idealize.ShloMosaic Idealize.ShloMosaic.ValueIdx
open Cert.Proof.Count

/-- A word falls in a tile's bins, and in bin `n` of them, exactly when it is the tile's first bin's number plus `n`. -/
theorem word_hit (w b : BitVec 32) (n : ℕ) (hw : w.toNat < 100000) (hb : b.toNat ≤ 100352) (hn : n < 3136) :
    (IntOp.andi (IntOp.cmpi .sge (IntOp.subi w b) 0#32) (IntOp.cmpi .slt (IntOp.subi w b) 3136#32) = 1#1
      ∧ n = (IntOp.minsi 3135#32 (IntOp.maxsi 0#32 (IntOp.subi w b))).toNat) ↔ w.toNat = b.toNat + n := by
  obtain ⟨d, hd⟩ : ∃ d, IntOp.subi w b = d := ⟨_, rfl⟩
  have hs : d.toNat = (4294967296 - b.toNat + w.toNat) % 4294967296 := by rw [← hd]; exact BitVec.toNat_sub ..
  have h1 := BitVec.toInt_eq_toNat_cond d
  have h2 : (3135#32).toInt = 3135 := rfl
  have h3 : (0#32).toInt = 0 := rfl
  have h4 : (3135#32).toNat = 3135 := rfl
  have h5 : (0#32).toNat = 0 := rfl
  have h6 : (3136#32).toInt = 3136 := rfl
  have hand : IntOp.andi (IntOp.cmpi .sge d 0#32) (IntOp.cmpi .slt d 3136#32) = 1#1 ↔ 0 ≤ d.toInt ∧ d.toInt < 3136 := by
    simp only [IntOp.andi, IntOp.cmpi, BitVec.slt_eq_decide, BitVec.sle_eq_decide, h3, h6]
    by_cases g1 : 0 ≤ d.toInt <;> by_cases g2 : d.toInt < 3136 <;> simp [g1, g2]
  rw [hd, hand]
  unfold IntOp.minsi IntOp.maxsi
  simp only [BitVec.slt_eq_decide, BitVec.sle_eq_decide, decide_eq_true_eq]
  split_ifs at * <;> omega

/-- Entry `n` of one scattering store's result: `1/512` more for every lane that hits it. -/
theorem scat_apply (b : BitVec 32) (v : IVec S16 32) (f : Vec Ideal S3136 .f32) (j : S3136.Idx) :
    scat b v f j = (List.finRange 16).foldl (fun (a : EReal) (k : Fin 16) =>
      if inBins b v (Shape.ofLane k) = 1#1 ∧ (j 0).val = (clamp b v (Shape.ofLane k)).toNat then a + share 1 else a) (f j) := by
  unfold scat storeIdx
  refine (List.foldl_hom (fun g : Vec Ideal S3136 .f32 => g j) fun g k => ?_).symm
  dsimp only
  by_cases hm : inBins b v (Shape.ofLane k) = 1#1
  · rw [if_pos (show inBins b v (Shape.ofLane k) = 1 from hm)]
    by_cases hj : (j 0).val = (clamp b v (Shape.ofLane k)).toNat
    · have hall : ∀ a : Fin S3136.rank, (j a).val = (idxAt (s := S3136) ![clamp b v] (k1_idx1_inb _ (clamp_lt b v)) (Shape.ofLane k) a).val := fun a => by
        obtain rfl : a = 0 := Subsingleton.elim _ _
        exact hj
      have hjj : idxAt (s := S3136) ![clamp b v] (k1_idx1_inb _ (clamp_lt b v)) (Shape.ofLane k) = j := funext fun a => Fin.ext (hall a).symm
      rw [if_pos ⟨hm, hj⟩, if_pos hall, if_pos rfl, hjj, ← unit_share]
      rfl
    · rw [if_neg fun h => hj h.2, if_neg fun h => hj (h 0)]
  · rw [if_neg (show ¬inBins b v (Shape.ofLane k) = 1 from hm), if_neg fun h => hm h.1]

/-- The words' numbers. -/
abbrev num (ix : IVec S512 32) (q : ℕ) : ℕ := (ix (at512 q)).toNat

/-- After `n` scattering stores, bin `j` holds the share of the first `16 n` words that are its number. -/
theorem hist_apply (b : BitVec 32) (ix : IVec S512 32) (hw : ∀ q, num ix q < 100000) (hb : b.toNat ≤ 100352) (j : S3136.Idx) :
    ∀ n, hist (F := Ideal) b ix n j = share (tally (num ix) (b.toNat + (j 0).val) (16 * n))
  | 0 => by
    rw [show tally (num ix) (b.toNat + (j 0).val) (16 * 0) = 0 from rfl, share_zero]
    exact Ideal.ofBits_zero_f32
  | n + 1 => by
    rw [hist_succ, scat_apply, hist_apply b ix hw hb j n]
    refine (foldl_hits share (· + share 1) share_succ (fun k => num ix (16 * n + k) = b.toNat + (j 0).val) 16 _ (fun a k => ?_) _).trans ?_
    · have h := word_hit (ix (at512 (16 * n + k.val))) b (j 0).val (hw _) hb (j 0).isLt
      exact if_congr h rfl rfl
    · rw [show 16 * (n + 1) = 16 * n + 16 by omega]
      unfold tally
      rw [Nat.count_add]

/-- The whole histogram. -/
theorem outOf_apply (ix : IVec S512 32) (hw : ∀ q, num ix q < 100000) (j : S100352.Idx) :
    outOf (F := Ideal) ix j = share (tally (num ix) (j 0).val 512) := by
  have hj : (j 0).val < 100352 := (j 0).isLt
  have hb : (BitVec.ofNat 32 (3136 * ((j 0).val / 3136))).toNat = 3136 * ((j 0).val / 3136) := by
    rw [BitVec.toNat_ofNat]; exact Nat.mod_eq_of_lt (by omega)
  unfold outOf
  rw [hist_apply _ ix hw (by rw [hb]; omega), hb, show (at3136 (j 0).val 0).val = (j 0).val % 3136 from rfl, Nat.div_add_mod]

end Cert.Proof.Pool

end
-- ==== Proof.Same.lean ====
/-
  The kernel's two results, over the extended reals, are the reference's.
-/
module

public import proofs.«01_k».proof.Proof.Run
public import proofs.«01_k».proof.Proof.RefValue
public import proofs.«01_k».proof.Proof.RefHist
public import proofs.«01_k».proof.Proof.TileValue

@[expose] public section

noncomputable section

namespace Cert.Proof.Pool

open Cert.KernelIdeal Cert.KernelIdeal.Gen
open Idealize.ShloMosaic Idealize.ShloMosaic.ValueIdx
open Cert.Proof.Count

theorem num_same (ix : IVec S512 32) : num ix = Ref.num ix := by
  funext q
  refine congrArg (fun i => (ix i).toNat) (funext fun a => ?_)
  match a with
  | ⟨0, _⟩ => rfl

/-- The words that the SparseCore kernel reads are the arg-max's. -/
theorem ixVec_same (x : Vec Ideal S100000x512 .f32) : ixVec x = Ref.argR x := by
  funext i
  obtain ⟨c, rfl⟩ : ∃ c : Fin 512, i = ix1 c := ⟨i 0, eq_ix1 i⟩
  exact (Routing.cast21 (idxOf x) shapeCasts_S1x512_S512 0 c c (by show c.val = 0 * 512 + c.val; omega)).trans (Ref.arg_eq_place x c).symm

/-- The first 100000 bins of the tiles' histogram are the reference's shares. -/
theorem bins_same (ix : IVec S512 32) (hw : ∀ q, Ref.num ix q < 100000) :
    cutOf (outOf (F := Ideal) ix) = Ref.shareR (Ref.countR (Ref.wrapR (Ref.clipR ix))) := by
  funext i
  obtain ⟨k, rfl⟩ : ∃ k : Fin 100000, i = ix1 k := ⟨i 0, eq_ix1 i⟩
  have hk := k.isLt
  rw [Ref.clip_id ix hw, Ref.wrap_id ix hw, Ref.share_apply ix hw]
  refine (Routing.slice1 0 (outOf (F := Ideal) ix) slices_S100352_S100000_0 k (by omega)).trans ?_
  rw [outOf_apply ix (by rw [num_same]; exact hw), num_same]
  exact congrArg (fun n => share (tally (Ref.num ix) n 512)) (Nat.zero_add k.val)

theorem hist_same (x : Vec Ideal S100000x512 .f32) : histOf x = Ref.histR x := by
  unfold histOf Ref.histR
  rw [ixVec_same, bins_same (Ref.argR x) fun q => Ref.arg_lt x _]

end Cert.Proof.Pool

end
-- ==== Proof.lean ====
/-
  The claims about the pooling and histogram kernel, put together from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Run
public import proofs.«01_k».proof.Proof.Reference
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-! ## The frames: every run ends, with the argument unchanged and every semaphore at zero -/

theorem frame_ideal : Cert.quiescent_KernelIdeal := fun m ρ _ =>
  (θ_run Cert.KernelIdeal.defs _ _).mono (fun _ h => ⟨fun c => (h.1 c).1, h.2⟩) (Pool.run_main (F := Ideal) m ρ)

/-! The kernel as compiled is the same text over the machine's floats, body table and all. -/

theorem bodies_same : (Cert.Kernel.defs₀ (F := Bits)) = Cert.KernelIdeal.defs₀ := by
  funext pr l x
  match pr, l, x with
  | .tc, 0, x => rfl
  | .tc, 1, x => rfl
  | .scScalar _, 0, x => rfl
  | .scScalar _, 1, x => rfl
  | .scVector _ _, 0, x => rfl
  | .scVector _ _, 1, x => rfl

theorem defs_same : (Cert.Kernel.defs (F := Bits)) = Cert.KernelIdeal.defs := by
  unfold Cert.Kernel.defs Cert.KernelIdeal.defs
  rw [bodies_same]
  rfl

theorem threads_same : (Cert.Kernel.threads (F := Bits)) = Cert.KernelIdeal.threads := rfl

theorem frame_kernel : Cert.quiescent_Kernel := fun m ρ _ => by
  rw [defs_same, threads_same]
  exact (θ_run Cert.KernelIdeal.defs _ _).mono (fun _ h => ⟨fun c => (h.1 c).1, h.2⟩) (Pool.run_main (F := Bits) m ρ)

theorem frame_reference : Cert.quiescent_ReferenceIdeal := fun m ρ _ =>
  (θ_run Cert.ReferenceIdeal.defs _ _).mono
    (fun r h => ⟨fun c => (h c Cert.ReferenceIdeal.main_arg0).trans (Ref.arg_eq _), Idealize.ShloMosaic.sem_eq_zero_of_no_sems (by decide) r.2⟩)
    (Ref.run_main (F := Ideal) m ρ)

/-! ## The values: over the extended reals both results are the reference's -/

theorem same_values : Cert.algebraic_KernelIdeal_ReferenceIdeal := fun m ρ m' ρ' _ hm => by
  refine ⟨fun c => Pool.histOf (Pool.argOf m c), fun c => Pool.maxOf (Pool.argOf m c),
    (θ_run Cert.KernelIdeal.defs _ _).mono (fun _ h c => ⟨(h.1 c).2.2, (h.1 c).2.1, (h.1 c).1⟩) (Pool.run_main (F := Ideal) m ρ),
    (θ_run Cert.ReferenceIdeal.defs _ _).mono (fun r h c => ⟨?_, ?_, (h c Cert.ReferenceIdeal.main_arg0).trans (Ref.arg_eq _)⟩)
      (Ref.run_main (F := Ideal) m' ρ')⟩
  · refine (h c Cert.ReferenceIdeal.main_v16).trans ((Ref.hist_eq _).trans ?_)
    exact (congrArg Ref.histR (hm c)).trans (Pool.hist_same (Pool.argOf m c)).symm
  · refine (h c Cert.ReferenceIdeal.main_v17).trans ((Ref.row_eq _).trans ?_)
    exact (congrArg Ref.rowR (hm c)).trans (Ref.row_same (Pool.argOf m c)).symm

theorem claim : Cert.Claim := ⟨Cert.Kernel.Gen.facts, Cert.KernelIdeal.Gen.facts, Cert.ReferenceIdeal.Gen.facts,
  frame_kernel, frame_ideal, frame_reference, trivial, same_values⟩

end Cert.Proof

end
